-- ==== Defs.lean ====
def Pre_FwdDw (m : (ℓ : Loc Cert.FwdDw.nD Cert.FwdDw.τ Cert.FwdDw.sig) → Buf (Elt Bits) ℓ) : Prop :=
  True

def Pre_FwdDwIdeal (m : (ℓ : Loc Cert.FwdDwIdeal.nD Cert.FwdDwIdeal.τ Cert.FwdDwIdeal.sig) → Buf (Elt Ideal) ℓ) : Prop :=
  True

def Pre_FwdDwRefIdeal (m : (ℓ : Loc Cert.FwdDwRefIdeal.nD Cert.FwdDwRefIdeal.τ Cert.FwdDwRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_normal [hPre_normal : Cert.Pre_normal.Facts] (m : (ℓ : Loc Cert.PrepIdeal.nD Cert.PrepIdeal.τ Cert.PrepIdeal.sig) → Buf (Elt Ideal) ℓ) : Prop :=
  ∀ c : Dev Cert.PrepIdeal.nD,
    (Cert.Pre_normal.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_normal [hPre_normal : Cert.Pre_normal.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_normal.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2))) = (fun _ => 1#1)

def quiescent_FwdDw [hFwdDw : Cert.FwdDw.Facts] : Prop :=
  ∀ (m : (ℓ : Loc Cert.FwdDw.nD Cert.FwdDw.τ Cert.FwdDw.sig) → Buf (Elt Bits) ℓ) (g : Dev Cert.FwdDw.nD → PrngReg), Pre_FwdDw m →
    θ_run (Cert.FwdDw.defs (F := Bits)) (onTc (τ := Cert.FwdDw.τ) (Cert.FwdDw.main (F := Bits))) ⟨m, fun _ => 0, g⟩ (fun r => (∀ c : Dev Cert.FwdDw.nD,
      r.2.mem ((c.tc : Thread Cert.FwdDw.nD Cert.FwdDw.τ).loc Cert.FwdDw.main_arg0) = m ((c.tc : Thread Cert.FwdDw.nD Cert.FwdDw.τ).loc Cert.FwdDw.main_arg0)
      ∧ r.2.mem ((c.tc : Thread Cert.FwdDw.nD Cert.FwdDw.τ).loc Cert.FwdDw.main_arg1) = m ((c.tc : Thread Cert.FwdDw.nD Cert.FwdDw.τ).loc Cert.FwdDw.main_arg1)
      ∧ r.2.mem ((c.tc : Thread Cert.FwdDw.nD Cert.FwdDw.τ).loc Cert.FwdDw.main_arg2) = m ((c.tc : Thread Cert.FwdDw.nD Cert.FwdDw.τ).loc Cert.FwdDw.main_arg2)
      ∧ r.2.mem ((c.tc : Thread Cert.FwdDw.nD Cert.FwdDw.τ).loc Cert.FwdDw.main_arg3) = m ((c.tc : Thread Cert.FwdDw.nD Cert.FwdDw.τ).loc Cert.FwdDw.main_arg3)
      ∧ r.2.mem ((c.tc : Thread Cert.FwdDw.nD Cert.FwdDw.τ).loc Cert.FwdDw.main_arg4) = m ((c.tc : Thread Cert.FwdDw.nD Cert.FwdDw.τ).loc Cert.FwdDw.main_arg4)
      ∧ r.2.mem ((c.tc : Thread Cert.FwdDw.nD Cert.FwdDw.τ).loc Cert.FwdDw.main_arg5) = m ((c.tc : Thread Cert.FwdDw.nD Cert.FwdDw.τ).loc Cert.FwdDw.main_arg5)
      ∧ r.2.mem ((c.tc : Thread Cert.FwdDw.nD Cert.FwdDw.τ).loc Cert.FwdDw.main_arg6) = m ((c.tc : Thread Cert.FwdDw.nD Cert.FwdDw.τ).loc Cert.FwdDw.main_arg6))
      ∧ r.2.sem = fun _ => 0)

def quiescent_FwdDwIdeal [hFwdDwIdeal : Cert.FwdDwIdeal.Facts] : Prop :=
  ∀ (m : (ℓ : Loc Cert.FwdDwIdeal.nD Cert.FwdDwIdeal.τ Cert.FwdDwIdeal.sig) → Buf (Elt Ideal) ℓ) (g : Dev Cert.FwdDwIdeal.nD → PrngReg), Pre_FwdDwIdeal m →
    θ_run (Cert.FwdDwIdeal.defs (F := Ideal)) (onTc (τ := Cert.FwdDwIdeal.τ) (Cert.FwdDwIdeal.main (F := Ideal))) ⟨m, fun _ => 0, g⟩ (fun r => (∀ c : Dev Cert.FwdDwIdeal.nD,
      r.2.mem ((c.tc : Thread Cert.FwdDwIdeal.nD Cert.FwdDwIdeal.τ).loc Cert.FwdDwIdeal.main_arg0) = m ((c.tc : Thread Cert.FwdDwIdeal.nD Cert.FwdDwIdeal.τ).loc Cert.FwdDwIdeal.main_arg0)
      ∧ r.2.mem ((c.tc : Thread Cert.FwdDwIdeal.nD Cert.FwdDwIdeal.τ).loc Cert.FwdDwIdeal.main_arg1) = m ((c.tc : Thread Cert.FwdDwIdeal.nD Cert.FwdDwIdeal.τ).loc Cert.FwdDwIdeal.main_arg1)
      ∧ r.2.mem ((c.tc : Thread Cert.FwdDwIdeal.nD Cert.FwdDwIdeal.τ).loc Cert.FwdDwIdeal.main_arg2) = m ((c.tc : Thread Cert.FwdDwIdeal.nD Cert.FwdDwIdeal.τ).loc Cert.FwdDwIdeal.main_arg2)
      ∧ r.2.mem ((c.tc : Thread Cert.FwdDwIdeal.nD Cert.FwdDwIdeal.τ).loc Cert.FwdDwIdeal.main_arg3) = m ((c.tc : Thread Cert.FwdDwIdeal.nD Cert.FwdDwIdeal.τ).loc Cert.FwdDwIdeal.main_arg3)
      ∧ r.2.mem ((c.tc : Thread Cert.FwdDwIdeal.nD Cert.FwdDwIdeal.τ).loc Cert.FwdDwIdeal.main_arg4) = m ((c.tc : Thread Cert.FwdDwIdeal.nD Cert.FwdDwIdeal.τ).loc Cert.FwdDwIdeal.main_arg4)
      ∧ r.2.mem ((c.tc : Thread Cert.FwdDwIdeal.nD Cert.FwdDwIdeal.τ).loc Cert.FwdDwIdeal.main_arg5) = m ((c.tc : Thread Cert.FwdDwIdeal.nD Cert.FwdDwIdeal.τ).loc Cert.FwdDwIdeal.main_arg5)
      ∧ r.2.mem ((c.tc : Thread Cert.FwdDwIdeal.nD Cert.FwdDwIdeal.τ).loc Cert.FwdDwIdeal.main_arg6) = m ((c.tc : Thread Cert.FwdDwIdeal.nD Cert.FwdDwIdeal.τ).loc Cert.FwdDwIdeal.main_arg6))
      ∧ r.2.sem = fun _ => 0)

def quiescent_FwdDwRefIdeal [hFwdDwRefIdeal : Cert.FwdDwRefIdeal.Facts] : Prop :=
  ∀ (m : (ℓ : Loc Cert.FwdDwRefIdeal.nD Cert.FwdDwRefIdeal.τ Cert.FwdDwRefIdeal.sig) → Buf (Elt Ideal) ℓ) (g : Dev Cert.FwdDwRefIdeal.nD → PrngReg), Pre_FwdDwRefIdeal m →
    θ_run (Cert.FwdDwRefIdeal.defs (F := Ideal)) (onTc (τ := Cert.FwdDwRefIdeal.τ) (Cert.FwdDwRefIdeal.main (F := Ideal))) ⟨m, fun _ => 0, g⟩ (fun r => (∀ c : Dev Cert.FwdDwRefIdeal.nD,
      r.2.mem ((c.tc : Thread Cert.FwdDwRefIdeal.nD Cert.FwdDwRefIdeal.τ).loc Cert.FwdDwRefIdeal.main_arg0) = m ((c.tc : Thread Cert.FwdDwRefIdeal.nD Cert.FwdDwRefIdeal.τ).loc Cert.FwdDwRefIdeal.main_arg0)
      ∧ r.2.mem ((c.tc : Thread Cert.FwdDwRefIdeal.nD Cert.FwdDwRefIdeal.τ).loc Cert.FwdDwRefIdeal.main_arg1) = m ((c.tc : Thread Cert.FwdDwRefIdeal.nD Cert.FwdDwRefIdeal.τ).loc Cert.FwdDwRefIdeal.main_arg1)
      ∧ r.2.mem ((c.tc : Thread Cert.FwdDwRefIdeal.nD Cert.FwdDwRefIdeal.τ).loc Cert.FwdDwRefIdeal.main_arg2) = m ((c.tc : Thread Cert.FwdDwRefIdeal.nD Cert.FwdDwRefIdeal.τ).loc Cert.FwdDwRefIdeal.main_arg2)
      ∧ r.2.mem ((c.tc : Thread Cert.FwdDwRefIdeal.nD Cert.FwdDwRefIdeal.τ).loc Cert.FwdDwRefIdeal.main_arg3) = m ((c.tc : Thread Cert.FwdDwRefIdeal.nD Cert.FwdDwRefIdeal.τ).loc Cert.FwdDwRefIdeal.main_arg3)
      ∧ r.2.mem ((c.tc : Thread Cert.FwdDwRefIdeal.nD Cert.FwdDwRefIdeal.τ).loc Cert.FwdDwRefIdeal.main_arg4) = m ((c.tc : Thread Cert.FwdDwRefIdeal.nD Cert.FwdDwRefIdeal.τ).loc Cert.FwdDwRefIdeal.main_arg4)
      ∧ r.2.mem ((c.tc : Thread Cert.FwdDwRefIdeal.nD Cert.FwdDwRefIdeal.τ).loc Cert.FwdDwRefIdeal.main_arg5) = m ((c.tc : Thread Cert.FwdDwRefIdeal.nD Cert.FwdDwRefIdeal.τ).loc Cert.FwdDwRefIdeal.main_arg5)
      ∧ r.2.mem ((c.tc : Thread Cert.FwdDwRefIdeal.nD Cert.FwdDwRefIdeal.τ).loc Cert.FwdDwRefIdeal.main_arg6) = m ((c.tc : Thread Cert.FwdDwRefIdeal.nD Cert.FwdDwRefIdeal.τ).loc Cert.FwdDwRefIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepIdeal_pre_normal [hPrepIdeal : Cert.PrepIdeal.Facts] [hPre_normal : Cert.Pre_normal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_normal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PrepRefIdeal_pre_normal [hPrepRefIdeal : Cert.PrepRefIdeal.Facts] [hPre_normal : Cert.Pre_normal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_normal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_FwdDw_FwdDwIdeal : Prop :=
  True

def algebraic_FwdDwIdeal_FwdDwRefIdeal [hFwdDwIdeal : Cert.FwdDwIdeal.Facts] [hFwdDwRefIdeal : Cert.FwdDwRefIdeal.Facts] : Prop :=
  ∀ (m : (ℓ : Loc Cert.FwdDwIdeal.nD Cert.FwdDwIdeal.τ Cert.FwdDwIdeal.sig) → Buf (Elt Ideal) ℓ) (g : Dev Cert.FwdDwIdeal.nD → PrngReg)
    (m' : (ℓ : Loc Cert.FwdDwRefIdeal.nD Cert.FwdDwRefIdeal.τ Cert.FwdDwRefIdeal.sig) → Buf (Elt Ideal) ℓ) (g' : Dev Cert.FwdDwRefIdeal.nD → PrngReg), Pre_FwdDwIdeal m →
    (∀ c : Dev Cert.FwdDwIdeal.nD,
      m' ((c.tc : Thread Cert.FwdDwRefIdeal.nD Cert.FwdDwRefIdeal.τ).loc Cert.FwdDwRefIdeal.main_arg0) = m ((c.tc : Thread Cert.FwdDwIdeal.nD Cert.FwdDwIdeal.τ).loc Cert.FwdDwIdeal.main_arg0)
      ∧ m' ((c.tc : Thread Cert.FwdDwRefIdeal.nD Cert.FwdDwRefIdeal.τ).loc Cert.FwdDwRefIdeal.main_arg1) = m ((c.tc : Thread Cert.FwdDwIdeal.nD Cert.FwdDwIdeal.τ).loc Cert.FwdDwIdeal.main_arg1)
      ∧ m' ((c.tc : Thread Cert.FwdDwRefIdeal.nD Cert.FwdDwRefIdeal.τ).loc Cert.FwdDwRefIdeal.main_arg2) = m ((c.tc : Thread Cert.FwdDwIdeal.nD Cert.FwdDwIdeal.τ).loc Cert.FwdDwIdeal.main_arg2)
      ∧ m' ((c.tc : Thread Cert.FwdDwRefIdeal.nD Cert.FwdDwRefIdeal.τ).loc Cert.FwdDwRefIdeal.main_arg3) = m ((c.tc : Thread Cert.FwdDwIdeal.nD Cert.FwdDwIdeal.τ).loc Cert.FwdDwIdeal.main_arg3)
      ∧ m' ((c.tc : Thread Cert.FwdDwRefIdeal.nD Cert.FwdDwRefIdeal.τ).loc Cert.FwdDwRefIdeal.main_arg4) = m ((c.tc : Thread Cert.FwdDwIdeal.nD Cert.FwdDwIdeal.τ).loc Cert.FwdDwIdeal.main_arg4)
      ∧ m' ((c.tc : Thread Cert.FwdDwRefIdeal.nD Cert.FwdDwRefIdeal.τ).loc Cert.FwdDwRefIdeal.main_arg5) = m ((c.tc : Thread Cert.FwdDwIdeal.nD Cert.FwdDwIdeal.τ).loc Cert.FwdDwIdeal.main_arg5)
      ∧ m' ((c.tc : Thread Cert.FwdDwRefIdeal.nD Cert.FwdDwRefIdeal.τ).loc Cert.FwdDwRefIdeal.main_arg6) = m ((c.tc : Thread Cert.FwdDwIdeal.nD Cert.FwdDwIdeal.τ).loc Cert.FwdDwIdeal.main_arg6)) →
    ∃ (v0 : (c : Dev Cert.FwdDwIdeal.nD) → Buf (Elt Ideal) ((c.tc : Thread Cert.FwdDwIdeal.nD Cert.FwdDwIdeal.τ).loc Cert.FwdDwIdeal.main_v1_0)) (v1 : (c : Dev Cert.FwdDwIdeal.nD) → Buf (Elt Ideal) ((c.tc : Thread Cert.FwdDwIdeal.nD Cert.FwdDwIdeal.τ).loc Cert.FwdDwIdeal.main_v1_1)) (v2 : (c : Dev Cert.FwdDwIdeal.nD) → Buf (Elt Ideal) ((c.tc : Thread Cert.FwdDwIdeal.nD Cert.FwdDwIdeal.τ).loc Cert.FwdDwIdeal.main_v1_2)) (v3 : (c : Dev Cert.FwdDwIdeal.nD) → Buf (Elt Ideal) ((c.tc : Thread Cert.FwdDwIdeal.nD Cert.FwdDwIdeal.τ).loc Cert.FwdDwIdeal.main_v1_3)) (v4 : (c : Dev Cert.FwdDwIdeal.nD) → Buf (Elt Ideal) ((c.tc : Thread Cert.FwdDwIdeal.nD Cert.FwdDwIdeal.τ).loc Cert.FwdDwIdeal.main_v1_4)) (v5 : (c : Dev Cert.FwdDwIdeal.nD) → Buf (Elt Ideal) ((c.tc : Thread Cert.FwdDwIdeal.nD Cert.FwdDwIdeal.τ).loc Cert.FwdDwIdeal.main_v1_5)) (v6 : (c : Dev Cert.FwdDwIdeal.nD) → Buf (Elt Ideal) ((c.tc : Thread Cert.FwdDwIdeal.nD Cert.FwdDwIdeal.τ).loc Cert.FwdDwIdeal.main_v11)),
      θ_run (Cert.FwdDwIdeal.defs (F := Ideal)) (onTc (τ := Cert.FwdDwIdeal.τ) (Cert.FwdDwIdeal.main (F := Ideal))) ⟨m, fun _ => 0, g⟩ (fun r => ∀ c : Dev Cert.FwdDwIdeal.nD,
          r.2.mem ((c.tc : Thread Cert.FwdDwIdeal.nD Cert.FwdDwIdeal.τ).loc Cert.FwdDwIdeal.main_v1_0) = v0 c
          ∧ r.2.mem ((c.tc : Thread Cert.FwdDwIdeal.nD Cert.FwdDwIdeal.τ).loc Cert.FwdDwIdeal.main_v1_1) = v1 c
          ∧ r.2.mem ((c.tc : Thread Cert.FwdDwIdeal.nD Cert.FwdDwIdeal.τ).loc Cert.FwdDwIdeal.main_v1_2) = v2 c
          ∧ r.2.mem ((c.tc : Thread Cert.FwdDwIdeal.nD Cert.FwdDwIdeal.τ).loc Cert.FwdDwIdeal.main_v1_3) = v3 c
          ∧ r.2.mem ((c.tc : Thread Cert.FwdDwIdeal.nD Cert.FwdDwIdeal.τ).loc Cert.FwdDwIdeal.main_v1_4) = v4 c
          ∧ r.2.mem ((c.tc : Thread Cert.FwdDwIdeal.nD Cert.FwdDwIdeal.τ).loc Cert.FwdDwIdeal.main_v1_5) = v5 c
          ∧ r.2.mem ((c.tc : Thread Cert.FwdDwIdeal.nD Cert.FwdDwIdeal.τ).loc Cert.FwdDwIdeal.main_v11) = v6 c
          ∧ r.2.mem ((c.tc : Thread Cert.FwdDwIdeal.nD Cert.FwdDwIdeal.τ).loc Cert.FwdDwIdeal.main_arg0) = m ((c.tc : Thread Cert.FwdDwIdeal.nD Cert.FwdDwIdeal.τ).loc Cert.FwdDwIdeal.main_arg0)
          ∧ r.2.mem ((c.tc : Thread Cert.FwdDwIdeal.nD Cert.FwdDwIdeal.τ).loc Cert.FwdDwIdeal.main_arg1) = m ((c.tc : Thread Cert.FwdDwIdeal.nD Cert.FwdDwIdeal.τ).loc Cert.FwdDwIdeal.main_arg1)
          ∧ r.2.mem ((c.tc : Thread Cert.FwdDwIdeal.nD Cert.FwdDwIdeal.τ).loc Cert.FwdDwIdeal.main_arg2) = m ((c.tc : Thread Cert.FwdDwIdeal.nD Cert.FwdDwIdeal.τ).loc Cert.FwdDwIdeal.main_arg2)
          ∧ r.2.mem ((c.tc : Thread Cert.FwdDwIdeal.nD Cert.FwdDwIdeal.τ).loc Cert.FwdDwIdeal.main_arg3) = m ((c.tc : Thread Cert.FwdDwIdeal.nD Cert.FwdDwIdeal.τ).loc Cert.FwdDwIdeal.main_arg3)
          ∧ r.2.mem ((c.tc : Thread Cert.FwdDwIdeal.nD Cert.FwdDwIdeal.τ).loc Cert.FwdDwIdeal.main_arg4) = m ((c.tc : Thread Cert.FwdDwIdeal.nD Cert.FwdDwIdeal.τ).loc Cert.FwdDwIdeal.main_arg4)
          ∧ r.2.mem ((c.tc : Thread Cert.FwdDwIdeal.nD Cert.FwdDwIdeal.τ).loc Cert.FwdDwIdeal.main_arg5) = m ((c.tc : Thread Cert.FwdDwIdeal.nD Cert.FwdDwIdeal.τ).loc Cert.FwdDwIdeal.main_arg5)
          ∧ r.2.mem ((c.tc : Thread Cert.FwdDwIdeal.nD Cert.FwdDwIdeal.τ).loc Cert.FwdDwIdeal.main_arg6) = m ((c.tc : Thread Cert.FwdDwIdeal.nD Cert.FwdDwIdeal.τ).loc Cert.FwdDwIdeal.main_arg6))
      ∧ θ_run (Cert.FwdDwRefIdeal.defs (F := Ideal)) (onTc (τ := Cert.FwdDwRefIdeal.τ) (Cert.FwdDwRefIdeal.main (F := Ideal))) ⟨m', fun _ => 0, g'⟩ (fun r => ∀ c : Dev Cert.FwdDwRefIdeal.nD,
          r.2.mem ((c.tc : Thread Cert.FwdDwRefIdeal.nD Cert.FwdDwRefIdeal.τ).loc Cert.FwdDwRefIdeal.main_v1_0) = v0 c
          ∧ r.2.mem ((c.tc : Thread Cert.FwdDwRefIdeal.nD Cert.FwdDwRefIdeal.τ).loc Cert.FwdDwRefIdeal.main_v1_1) = v1 c
          ∧ r.2.mem ((c.tc : Thread Cert.FwdDwRefIdeal.nD Cert.FwdDwRefIdeal.τ).loc Cert.FwdDwRefIdeal.main_v1_2) = v2 c
          ∧ r.2.mem ((c.tc : Thread Cert.FwdDwRefIdeal.nD Cert.FwdDwRefIdeal.τ).loc Cert.FwdDwRefIdeal.main_v1_3) = v3 c
          ∧ r.2.mem ((c.tc : Thread Cert.FwdDwRefIdeal.nD Cert.FwdDwRefIdeal.τ).loc Cert.FwdDwRefIdeal.main_v1_4) = v4 c
          ∧ r.2.mem ((c.tc : Thread Cert.FwdDwRefIdeal.nD Cert.FwdDwRefIdeal.τ).loc Cert.FwdDwRefIdeal.main_v1_5) = v5 c
          ∧ r.2.mem ((c.tc : Thread Cert.FwdDwRefIdeal.nD Cert.FwdDwRefIdeal.τ).loc Cert.FwdDwRefIdeal.main_v15) = v6 c
          ∧ r.2.mem ((c.tc : Thread Cert.FwdDwRefIdeal.nD Cert.FwdDwRefIdeal.τ).loc Cert.FwdDwRefIdeal.main_arg0) = m' ((c.tc : Thread Cert.FwdDwRefIdeal.nD Cert.FwdDwRefIdeal.τ).loc Cert.FwdDwRefIdeal.main_arg0)
          ∧ r.2.mem ((c.tc : Thread Cert.FwdDwRefIdeal.nD Cert.FwdDwRefIdeal.τ).loc Cert.FwdDwRefIdeal.main_arg1) = m' ((c.tc : Thread Cert.FwdDwRefIdeal.nD Cert.FwdDwRefIdeal.τ).loc Cert.FwdDwRefIdeal.main_arg1)
          ∧ r.2.mem ((c.tc : Thread Cert.FwdDwRefIdeal.nD Cert.FwdDwRefIdeal.τ).loc Cert.FwdDwRefIdeal.main_arg2) = m' ((c.tc : Thread Cert.FwdDwRefIdeal.nD Cert.FwdDwRefIdeal.τ).loc Cert.FwdDwRefIdeal.main_arg2)
          ∧ r.2.mem ((c.tc : Thread Cert.FwdDwRefIdeal.nD Cert.FwdDwRefIdeal.τ).loc Cert.FwdDwRefIdeal.main_arg3) = m' ((c.tc : Thread Cert.FwdDwRefIdeal.nD Cert.FwdDwRefIdeal.τ).loc Cert.FwdDwRefIdeal.main_arg3)
          ∧ r.2.mem ((c.tc : Thread Cert.FwdDwRefIdeal.nD Cert.FwdDwRefIdeal.τ).loc Cert.FwdDwRefIdeal.main_arg4) = m' ((c.tc : Thread Cert.FwdDwRefIdeal.nD Cert.FwdDwRefIdeal.τ).loc Cert.FwdDwRefIdeal.main_arg4)
          ∧ r.2.mem ((c.tc : Thread Cert.FwdDwRefIdeal.nD Cert.FwdDwRefIdeal.τ).loc Cert.FwdDwRefIdeal.main_arg5) = m' ((c.tc : Thread Cert.FwdDwRefIdeal.nD Cert.FwdDwRefIdeal.τ).loc Cert.FwdDwRefIdeal.main_arg5)
          ∧ r.2.mem ((c.tc : Thread Cert.FwdDwRefIdeal.nD Cert.FwdDwRefIdeal.τ).loc Cert.FwdDwRefIdeal.main_arg6) = m' ((c.tc : Thread Cert.FwdDwRefIdeal.nD Cert.FwdDwRefIdeal.τ).loc Cert.FwdDwRefIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_Prep_PrepIdeal : Prop :=
  True

def algebraic_PrepIdeal_PrepRefIdeal_on_written_pre_normal [hPrepIdeal : Cert.PrepIdeal.Facts] [hPrepRefIdeal : Cert.PrepRefIdeal.Facts] [hPre_normal : Cert.Pre_normal.Facts] [hOn_written : Cert.On_written.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_normal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)) (v3 : (c : Dev Cert.PrepIdeal.nD) → Buf (Elt Ideal) ((c.tc : Thread Cert.PrepIdeal.nD Cert.PrepIdeal.τ).loc Cert.PrepIdeal.main_v2_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          (∀ i : (⟨2, ![3072, 3072]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).1 i = 1#1 → r.2.mem ((c.tc : Thread Cert.PrepIdeal.nD Cert.PrepIdeal.τ).loc Cert.PrepIdeal.main_v2_0) i = v0 c i)
          ∧ (∀ i : (⟨2, ![3072, 3072]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).2.1 i = 1#1 → r.2.mem ((c.tc : Thread Cert.PrepIdeal.nD Cert.PrepIdeal.τ).loc Cert.PrepIdeal.main_v2_1) i = v1 c i)
          ∧ (∀ i : (⟨2, ![1, 3072]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).2.2.1 i = 1#1 → r.2.mem ((c.tc : Thread Cert.PrepIdeal.nD Cert.PrepIdeal.τ).loc Cert.PrepIdeal.main_v2_2) i = v2 c i)
          ∧ (∀ i : (⟨1, ![8]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).2.2.2 i = 1#1 → r.2.mem ((c.tc : Thread Cert.PrepIdeal.nD Cert.PrepIdeal.τ).loc Cert.PrepIdeal.main_v2_3) i = v3 c i)
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          (∀ i : (⟨2, ![3072, 3072]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).1 i = 1#1 → r.2.mem ((c.tc : Thread Cert.PrepRefIdeal.nD Cert.PrepRefIdeal.τ).loc Cert.PrepRefIdeal.main_v2_0) i = v0 c i)
          ∧ (∀ i : (⟨2, ![3072, 3072]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).2.1 i = 1#1 → r.2.mem ((c.tc : Thread Cert.PrepRefIdeal.nD Cert.PrepRefIdeal.τ).loc Cert.PrepRefIdeal.main_v2_1) i = v1 c i)
          ∧ (∀ i : (⟨2, ![1, 3072]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).2.2.1 i = 1#1 → r.2.mem ((c.tc : Thread Cert.PrepRefIdeal.nD Cert.PrepRefIdeal.τ).loc Cert.PrepRefIdeal.main_v2_2) i = v2 c i)
          ∧ (∀ i : (⟨1, ![8]⟩ : Shape).Idx, (Cert.On_written.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))).2.2.2 i = 1#1 → r.2.mem ((c.tc : Thread Cert.PrepRefIdeal.nD Cert.PrepRefIdeal.τ).loc Cert.PrepRefIdeal.main_v2_3) i = v3 c i)
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hFwdDw : Cert.FwdDw.Facts) (hFwdDwIdeal : Cert.FwdDwIdeal.Facts) (hFwdDwRefIdeal : Cert.FwdDwRefIdeal.Facts) (hDx : Cert.Dx.Facts) (hDxIdeal : Cert.DxIdeal.Facts) (hDxRefIdeal : Cert.DxRefIdeal.Facts) (hPrep : Cert.Prep.Facts) (hPrepIdeal : Cert.PrepIdeal.Facts) (hPrepRefIdeal : Cert.PrepRefIdeal.Facts) (hPre_normal : Cert.Pre_normal.Facts) (hOn_written : Cert.On_written.Facts),
    quiescent_FwdDw (hFwdDw := hFwdDw)
    ∧ quiescent_FwdDwIdeal (hFwdDwIdeal := hFwdDwIdeal)
    ∧ quiescent_FwdDwRefIdeal (hFwdDwRefIdeal := hFwdDwRefIdeal)
    ∧ quiescent_Dx (hDx := hDx)
    ∧ quiescent_DxIdeal (hDxIdeal := hDxIdeal)
    ∧ quiescent_DxRefIdeal (hDxRefIdeal := hDxRefIdeal)
    ∧ quiescent_Prep (hPrep := hPrep)
    ∧ quiescent_PrepIdeal (hPrepIdeal := hPrepIdeal)
    ∧ quiescent_PrepIdeal_pre_normal (hPrepIdeal := hPrepIdeal) (hPre_normal := hPre_normal)
    ∧ quiescent_PrepRefIdeal (hPrepRefIdeal := hPrepRefIdeal)
    ∧ quiescent_PrepRefIdeal_pre_normal (hPrepRefIdeal := hPrepRefIdeal) (hPre_normal := hPre_normal)
    ∧ preserves_FwdDw_FwdDwIdeal
    ∧ algebraic_FwdDwIdeal_FwdDwRefIdeal (hFwdDwIdeal := hFwdDwIdeal) (hFwdDwRefIdeal := hFwdDwRefIdeal)
    ∧ preserves_Dx_DxIdeal
    ∧ algebraic_DxIdeal_DxRefIdeal (hDxIdeal := hDxIdeal) (hDxRefIdeal := hDxRefIdeal)
    ∧ preserves_Prep_PrepIdeal
    ∧ algebraic_PrepIdeal_PrepRefIdeal_on_written_pre_normal (hPrepIdeal := hPrepIdeal) (hPrepRefIdeal := hPrepRefIdeal) (hPre_normal := hPre_normal) (hOn_written := hOn_written)
-- ==== On_written.lean ====
abbrev S2x1536x3072 : Shape := ⟨3, ![2, 1536, 3072]⟩
abbrev S3072 : Shape := ⟨1, ![3072]⟩
abbrev S3x16 : Shape := ⟨2, ![3, 16]⟩
abbrev S_ : Shape := ⟨0, ![]⟩
abbrev S3072x3072 : Shape := ⟨2, ![3072, 3072]⟩
abbrev S1x3072 : Shape := ⟨2, ![1, 3072]⟩
abbrev S8 : Shape := ⟨1, ![8]⟩

class Facts : Prop where
  bcast_S_S3072x3072 : S_.BroadcastsInDim S3072x3072 (![] : Fin 0 → Fin S3072x3072.rank)
  bcast_S_S1x3072 : S_.BroadcastsInDim S1x3072 (![] : Fin 0 → Fin S1x3072.rank)
  bcast_S_S8 : S_.BroadcastsInDim S8 (![] : Fin 0 → Fin S8.rank)

variable [Facts]

def fn {F : FTy → Type} [FloatOps F] (main_arg0 : FVec F S2x1536x3072 .bf16) (main_arg1 : FVec F S3072 .bf16) (main_arg2 : FVec F S3x16 .f32) : IVec S3072x3072 1 × IVec S3072x3072 1 × IVec S1x3072 1 × IVec S8 1 :=
  let main_c : IVec S_ 1 := constantI S_ 1 1#1
  let main_v0 : IVec S3072x3072 1 := broadcastInDim S3072x3072 ![] bcast_S_S3072x3072 main_c
  let main_c_0 : IVec S_ 1 := constantI S_ 1 1#1
  let main_v1 : IVec S3072x3072 1 := broadcastInDim S3072x3072 ![] bcast_S_S3072x3072 main_c_0
  let main_c_1 : IVec S_ 1 := constantI S_ 1 1#1
  let main_v2 : IVec S1x3072 1 := broadcastInDim S1x3072 ![] bcast_S_S1x3072 main_c_1
  let main_v3 : IVec S8 32 := iotaInDim S8 32 0
  let main_c_2 : IVec S_ 32 := constantI S_ 32 6#32
  let main_v4 : IVec S8 32 := broadcastInDim S8 ![] bcast_S_S8 main_c_2
  let main_v5 : IVec S8 1 := cmpi .slt main_v3 main_v4
  (main_v0, main_v1, main_v2, main_v5)
-- ==== Pre_normal.lean ====
abbrev S2x1536x3072 : Shape := ⟨3, ![2, 1536, 3072]⟩
abbrev S3072 : Shape := ⟨1, ![3072]⟩
abbrev S3x16 : Shape := ⟨2, ![3, 16]⟩
abbrev S_ : Shape := ⟨0, ![]⟩
abbrev S3 : Shape := ⟨1, ![3]⟩
abbrev S1 : Shape := ⟨1, ![1]⟩

class Facts : Prop where
  reducesTo_S3x16_S3_d1 : S3x16.ReducesTo [1] S3
  h_S_ : 0 < S_.numel
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1

variable [Facts]

def fn_part1 {F : FTy → Type} [FloatOps F] (main_v4 : FVec F S3 .f32) (main_v12 : IVec S3 1) (main_v14 : IVec S3 1) (main_v15 : FVec F S3 .f32) : IVec S_ 1 :=
  let main_v16 : IVec S3 1 := cmpf .oge main_v4 main_v15
  let main_cst_7 : FVec F S_ .f32 := constant S_ .f32 0x7E800000#32
  let main_v17 : FVec F S3 .f32 := broadcastInDim S3 ![] bcast_S_S3 main_cst_7
  let main_v18 : IVec S3 1 := cmpf .olt main_v4 main_v17
  let main_v19 : IVec S3 1 := andi main_v16 main_v18
  let main_v20 : IVec S3 1 := ori main_v14 main_v19
  let main_v21 : IVec S1 1 := (extractStridedSlice S1 ![0] · slices_S3_S1_0) main_v12
  let main_v22 : IVec S_ 1 := shapeCast S_ main_v21 shapeCasts_S1_S_
  let main_v23 : IVec S1 1 := (extractStridedSlice S1 ![1] · slices_S3_S1_1) main_v12
  let main_v24 : IVec S_ 1 := shapeCast S_ main_v23 shapeCasts_S1_S_
  let main_v25 : IVec S_ 1 := andi main_v22 main_v24
  let main_v26 : IVec S1 1 := (extractStridedSlice S1 ![2] · slices_S3_S1_2) main_v20
  let main_v27 : IVec S_ 1 := shapeCast S_ main_v26 shapeCasts_S1_S_
  let main_v28 : IVec S_ 1 := andi main_v25 main_v27
  main_v28

def fn {F : FTy → Type} [FloatOps F] (main_arg0 : FVec F S2x1536x3072 .bf16) (main_arg1 : FVec F S3072 .bf16) (main_arg2 : FVec F S3x16 .f32) : IVec S_ 1 :=
  let main_cst : FVec F S_ .f32 := constant S_ .f32 0xFF800000#32
  let main_v0 : FVec F S3 .f32 := (fun x v => Host.reduce FloatOps.maximumf x v reducesTo_S3x16_S3_d1 h_S_) main_arg2 main_cst
  let main_cst_0 : FVec F S_ .f32 := constant S_ .f32 0x3B124925#32
  let main_v1 : FVec F S3 .f32 := broadcastInDim S3 ![] bcast_S_S3 main_cst_0
  let main_v2 : FVec F S3 .f32 := mulf main_v0 main_v1
  let main_cst_1 : FVec F S_ .f32 := constant S_ .f32 0x37924925#32
  let main_v3 : FVec F S3 .f32 := broadcastInDim S3 ![] bcast_S_S3 main_cst_1
  let main_v4 : FVec F S3 .f32 := mulf main_v0 main_v3
  let main_cst_2 : FVec F S_ .f32 := constant S_ .f32 0x00000000#32
  let main_v5 : FVec F S3 .f32 := broadcastInDim S3 ![] bcast_S_S3 main_cst_2
  let main_v6 : IVec S3 1 := cmpf .oeq main_v0 main_v5
  let main_cst_3 : FVec F S_ .f32 := constant S_ .f32 0x00800000#32
  let main_v7 : FVec F S3 .f32 := broadcastInDim S3 ![] bcast_S_S3 main_cst_3
  let main_v8 : IVec S3 1 := cmpf .oge main_v2 main_v7
  let main_cst_4 : FVec F S_ .f32 := constant S_ .f32 0x7E800000#32
  let main_v9 : FVec F S3 .f32 := broadcastInDim S3 ![] bcast_S_S3 main_cst_4
  let main_v10 : IVec S3 1 := cmpf .olt main_v2 main_v9
  let main_v11 : IVec S3 1 := andi main_v8 main_v10
  let main_v12 : IVec S3 1 := ori main_v6 main_v11
  let main_cst_5 : FVec F S_ .f32 := constant S_ .f32 0x00000000#32
  let main_v13 : FVec F S3 .f32 := broadcastInDim S3 ![] bcast_S_S3 main_cst_5
  let main_v14 : IVec S3 1 := cmpf .oeq main_v0 main_v13
  let main_cst_6 : FVec F S_ .f32 := constant S_ .f32 0x00800000#32
  let main_v15 : FVec F S3 .f32 := broadcastInDim S3 ![] bcast_S_S3 main_cst_6
  fn_part1 (F := F) main_v4 main_v12 main_v14 main_v15
-- ==== FwdDw.lean ====
abbrev S8 : Shape := ⟨1, ![8]⟩
abbrev S3072x3072 : Shape := ⟨2, ![3072, 3072]⟩
abbrev S3072x8192 : Shape := ⟨2, ![3072, 8192]⟩
abbrev S2x1536x8192 : Shape := ⟨3, ![2, 1536, 8192]⟩
abbrev S1x3072 : Shape := ⟨2, ![1, 3072]⟩
abbrev S3x16 : Shape := ⟨2, ![3, 16]⟩
abbrev S1x512 : Shape := ⟨2, ![1, 512]⟩
abbrev S3072x512 : Shape := ⟨2, ![3072, 512]⟩
abbrev S512 : Shape := ⟨1, ![512]⟩
abbrev S1 : Shape := ⟨1, ![1]⟩
abbrev S512x3072 : Shape := ⟨2, ![512, 3072]⟩
abbrev S512x512 : Shape := ⟨2, ![512, 512]⟩
abbrev S_ : Shape := ⟨0, ![]⟩
abbrev S3 : Shape := ⟨1, ![3]⟩
abbrev S3x1 : Shape := ⟨2, ![3, 1]⟩
abbrev S3x15 : Shape := ⟨2, ![3, 15]⟩

abbrev nBuf : Space → Nat
  | .hbm => 27
  | .vmem => 16
  | .smem => 1
  | _ => 0

abbrev bufTy : (tb : Table) → Fin (tcTables nBuf tb) → BufTy
  | .hbm, ⟨0, _⟩ => ⟨S8, .f32⟩
  | .hbm, ⟨1, _⟩ => ⟨S3072x3072, .fp8e4m3⟩
  | .hbm, ⟨2, _⟩ => ⟨S3072x3072, .fp8e4m3⟩
  | .hbm, ⟨3, _⟩ => ⟨S3072x8192, .bf16⟩
  | .hbm, ⟨4, _⟩ => ⟨S2x1536x8192, .bf16⟩
  | .hbm, ⟨5, _⟩ => ⟨S1x3072, .f32⟩
  | .hbm, ⟨6, _⟩ => ⟨S3x16, .f32⟩
  | .hbm, ⟨7, _⟩ => ⟨S3072x8192, .bf16⟩
  | .hbm, ⟨8, _⟩ => ⟨S3072x8192, .bf16⟩
  | .hbm, ⟨9, _⟩ => ⟨S3072x8192, .f32⟩
  | .hbm, ⟨10, _⟩ => ⟨S3072x8192, .fp8e4m3⟩
  | .hbm, ⟨11, _⟩ => ⟨S3072x8192, .fp8e5m2⟩
  | .hbm, ⟨12, _⟩ => ⟨S1x512, .f32⟩
  | .hbm, ⟨13, _⟩ => ⟨S1x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S3, .f32⟩
  | .hbm, ⟨24, _⟩ => ⟨S3x1, .f32⟩
  | .hbm, ⟨25, _⟩ => ⟨S3x15, .f32⟩
  | .hbm, ⟨26, _⟩ => ⟨S3x16, .f32⟩
  | .local _ .vmem, ⟨0, _⟩ => ⟨S3072x3072, .fp8e4m3⟩
  | .local _ .vmem, ⟨1, _⟩ => ⟨S3072x3072, .fp8e4m3⟩
  | .local _ .vmem, ⟨2, _⟩ => ⟨S3072x512, .bf16⟩
  | .local _ .vmem, ⟨3, _⟩ => ⟨S3072x512, .bf16⟩
  | .local _ .vmem, ⟨4, _⟩ => ⟨S3072x512, .bf16⟩
  | .local _ .vmem, ⟨5, _⟩ => ⟨S3072x512, .bf16⟩
  | .local _ .vmem, ⟨6, _⟩ => ⟨S3072x512, .bf16⟩
  | .local _ .vmem, ⟨7, _⟩ => ⟨S3072x512, .bf16⟩
  | .local _ .vmem, ⟨8, _⟩ => ⟨S3072x512, .f32⟩
  | .local _ .vmem, ⟨9, _⟩ => ⟨S3072x512, .f32⟩
  | .local _ .vmem, ⟨10, _⟩ => ⟨S3072x512, .fp8e4m3⟩
  | .local _ .vmem, ⟨11, _⟩ => ⟨S3072x512, .fp8e4m3⟩
  | .local _ .vmem, ⟨12, _⟩ => ⟨S3072x512, .fp8e5m2⟩
  | .local _ .vmem, ⟨13, _⟩ => ⟨S3072x512, .fp8e5m2⟩
  | .local _ .vmem, ⟨14, _⟩ => ⟨S1x512, .f32⟩
  | .local _ .vmem, ⟨15, _⟩ => ⟨S1x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3072x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3072x512 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FwdDwRefIdeal.lean ====
abbrev S8 : Shape := ⟨1, ![8]⟩
abbrev S3072x3072 : Shape := ⟨2, ![3072, 3072]⟩
abbrev S3072x8192 : Shape := ⟨2, ![3072, 8192]⟩
abbrev S2x1536x8192 : Shape := ⟨3, ![2, 1536, 8192]⟩
abbrev S1x3072 : Shape := ⟨2, ![1, 3072]⟩
abbrev S3x16 : Shape := ⟨2, ![3, 16]⟩
abbrev S1x512 : Shape := ⟨2, ![1, 512]⟩
abbrev S1 : Shape := ⟨1, ![1]⟩
abbrev S49152x512 : Shape := ⟨2, ![49152, 512]⟩
abbrev S512 : Shape := ⟨1, ![512]⟩
abbrev S_ : Shape := ⟨0, ![]⟩
abbrev S3 : Shape := ⟨1, ![3]⟩
abbrev S3x1 : Shape := ⟨2, ![3, 1]⟩
abbrev S3x15 : Shape := ⟨2, ![3, 15]⟩

abbrev nBuf : Space → Nat
  | .hbm => 31
  | .vmem => 10
  | .smem => 1
  | _ => 0

abbrev bufTy : (tb : Table) → Fin (tcTables nBuf tb) → BufTy
  | .hbm, ⟨0, _⟩ => ⟨S8, .f32⟩
  | .hbm, ⟨1, _⟩ => ⟨S3072x3072, .fp8e4m3⟩
  | .hbm, ⟨2, _⟩ => ⟨S3072x3072, .fp8e4m3⟩
  | .hbm, ⟨3, _⟩ => ⟨S3072x8192, .bf16⟩
  | .hbm, ⟨4, _⟩ => ⟨S2x1536x8192, .bf16⟩
  | .hbm, ⟨5, _⟩ => ⟨S1x3072, .f32⟩
  | .hbm, ⟨6, _⟩ => ⟨S3x16, .f32⟩
  | .hbm, ⟨7, _⟩ => ⟨S3072x8192, .bf16⟩
  | .hbm, ⟨8, _⟩ => ⟨S3072x8192, .bf16⟩
  | .hbm, ⟨9, _⟩ => ⟨S3072x8192, .f32⟩
  | .hbm, ⟨10, _⟩ => ⟨S3072x8192, .fp8e4m3⟩
  | .hbm, ⟨11, _⟩ => ⟨S3072x8192, .fp8e5m2⟩
  | .hbm, ⟨12, _⟩ => ⟨S1x512, .f32⟩
  | .hbm, ⟨13, _⟩ => ⟨S1x512, .f32⟩
  | .hbm, ⟨14, _⟩ => ⟨S_, .f32⟩
  | .hbm, ⟨15, _⟩ => ⟨S_, .f32⟩
  | .hbm, ⟨16, _⟩ => ⟨S3072x8192, .f32⟩
  | .hbm, ⟨17, _⟩ => ⟨S3072x8192, .f32⟩
  | .hbm, ⟨18, _⟩ => ⟨S_, .f32⟩
  | .hbm, ⟨19, _⟩ => ⟨S_, .f32⟩
  | .hbm, ⟨20, _⟩ => ⟨S2x1536x8192, .f32⟩
  | .hbm, ⟨21, _⟩ => ⟨S2x1536x8192, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S3, .f32⟩
  | .hbm, ⟨28, _⟩ => ⟨S3x1, .f32⟩
  | .hbm, ⟨29, _⟩ => ⟨S3x15, .f32⟩
  | .hbm, ⟨30, _⟩ => ⟨S3x16, .f32⟩
  | .local _ .vmem, ⟨0, _⟩ => ⟨S3072x3072, .fp8e4m3⟩
  | .local _ .vmem, ⟨1, _⟩ => ⟨S3072x3072, .fp8e4m3⟩
  | .local _ .vmem, ⟨2, _⟩ => ⟨S3072x8192, .bf16⟩
  | .local _ .vmem, ⟨3, _⟩ => ⟨S3072x8192, .bf16⟩
  | .local _ .vmem, ⟨4, _⟩ => ⟨S3072x8192, .bf16⟩
  | .local _ .vmem, ⟨5, _⟩ => ⟨S3072x8192, .f32⟩
  | .local _ .vmem, ⟨6, _⟩ => ⟨S3072x8192, .fp8e4m3⟩
  | .local _ .vmem, ⟨7, _⟩ => ⟨S3072x8192, .fp8e5m2⟩
  | .local _ .vmem, ⟨8, _⟩ => ⟨S1x512, .f32⟩
  | .local _ .vmem, ⟨9, _⟩ => ⟨S1x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x8192 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Dx.lean ====
abbrev S8 : Shape := ⟨1, ![8]⟩
abbrev S3072x8192 : Shape := ⟨2, ![3072, 8192]⟩
abbrev S3072x3072 : Shape := ⟨2, ![3072, 3072]⟩
abbrev S1024x8192 : Shape := ⟨2, ![1024, 8192]⟩
abbrev S1024x1024 : Shape := ⟨2, ![1024, 1024]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S8, .f32⟩
  | .hbm, ⟨1, _⟩ => ⟨S3072x8192, .fp8e5m2⟩
  | .hbm, ⟨2, _⟩ => ⟨S3072x8192, .fp8e4m3⟩
  | .hbm, ⟨3, _⟩ => ⟨S3072x3072, .bf16⟩
  | .local _ .vmem, ⟨0, _⟩ => ⟨S1024x8192, .fp8e5m2⟩
  | .local _ .vmem, ⟨1, _⟩ => ⟨S1024x8192, .fp8e5m2⟩
  | .local _ .vmem, ⟨2, _⟩ => ⟨S1024x8192, .fp8e4m3⟩
  | .local _ .vmem, ⟨3, _⟩ => ⟨S1024x8192, .fp8e4m3⟩
  | .local _ .vmem, ⟨4, _⟩ => ⟨S1024x1024, .bf16⟩
  | .local _ .vmem, ⟨5, _⟩ => ⟨S1024x1024, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 3], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x8192 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DxRefIdeal.lean ====
abbrev S8 : Shape := ⟨1, ![8]⟩
abbrev S3072x8192 : Shape := ⟨2, ![3072, 8192]⟩
abbrev S3072x3072 : Shape := ⟨2, ![3072, 3072]⟩
abbrev S1 : Shape := ⟨1, ![1]⟩

abbrev nBuf : Space → Nat
  | .hbm => 4
  | .vmem => 3
  | .smem => 1
  | _ => 0

abbrev bufTy : (tb : Table) → Fin (tcTables nBuf tb) → BufTy
  | .hbm, ⟨0, _⟩ => ⟨S8, .f32⟩
  | .hbm, ⟨1, _⟩ => ⟨S3072x8192, .fp8e5m2⟩
  | .hbm, ⟨2, _⟩ => ⟨S3072x8192, .fp8e4m3⟩
  | .hbm, ⟨3, _⟩ => ⟨S3072x3072, .bf16⟩
  | .local _ .vmem, ⟨0, _⟩ => ⟨S3072x8192, .fp8e5m2⟩
  | .local _ .vmem, ⟨1, _⟩ => ⟨S3072x8192, .fp8e4m3⟩
  | .local _ .vmem, ⟨2, _⟩ => ⟨S3072x3072, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Prep.lean ====
abbrev S2x1536x3072 : Shape := ⟨3, ![2, 1536, 3072]⟩
abbrev S3072 : Shape := ⟨1, ![3072]⟩
abbrev S3x16 : Shape := ⟨2, ![3, 16]⟩
abbrev S3072x3072 : Shape := ⟨2, ![3072, 3072]⟩
abbrev S1x3072 : Shape := ⟨2, ![1, 3072]⟩
abbrev S8 : Shape := ⟨1, ![8]⟩
abbrev S256x3072 : Shape := ⟨2, ![256, 3072]⟩
abbrev S3072x256 : Shape := ⟨2, ![3072, 256]⟩
abbrev S3 : Shape := ⟨1, ![3]⟩
abbrev S3x1 : Shape := ⟨2, ![3, 1]⟩
abbrev S3x256 : Shape := ⟨2, ![3, 256]⟩
abbrev S1x1 : Shape := ⟨2, ![1, 1]⟩
abbrev S1 : Shape := ⟨1, ![1]⟩
abbrev S256 : Shape := ⟨1, ![256]⟩
abbrev S256x1 : Shape := ⟨2, ![256, 1]⟩

abbrev nBuf : Space → Nat
  | .hbm => 9
  | .vmem => 9
  | .smem => 1
  | _ => 0

abbrev bufTy : (tb : Table) → Fin (tcTables nBuf tb) → BufTy
  | .hbm, ⟨0, _⟩ => ⟨S2x1536x3072, .bf16⟩
  | .hbm, ⟨1, _⟩ => ⟨S3072, .bf16⟩
  | .hbm, ⟨2, _⟩ => ⟨S3x16, .f32⟩
  | .hbm, ⟨3, _⟩ => ⟨S3072x3072, .bf16⟩
  | .hbm, ⟨4, _⟩ => ⟨S1x3072, .bf16⟩
  | .hbm, ⟨5, _⟩ => ⟨S3072x3072, .fp8e4m3⟩
  | .hbm, ⟨6, _⟩ => ⟨S3072x3072, .fp8e4m3⟩
  | .hbm, ⟨7, _⟩ => ⟨S1x3072, .f32⟩
  | .hbm, ⟨8, _⟩ => ⟨S8, .f32⟩
  | .local _ .vmem, ⟨0, _⟩ => ⟨S256x3072, .bf16⟩
  | .local _ .vmem, ⟨1, _⟩ => ⟨S256x3072, .bf16⟩
  | .local _ .vmem, ⟨2, _⟩ => ⟨S1x3072, .bf16⟩
  | .local _ .vmem, ⟨3, _⟩ => ⟨S3x16, .f32⟩
  | .local _ .vmem, ⟨4, _⟩ => ⟨S256x3072, .fp8e4m3⟩
  | .local _ .vmem, ⟨5, _⟩ => ⟨S256x3072, .fp8e4m3⟩
  | .local _ .vmem, ⟨6, _⟩ => ⟨S3072x256, .fp8e4m3⟩
  | .local _ .vmem, ⟨7, _⟩ => ⟨S3072x256, .fp8e4m3⟩
  | .local _ .vmem, ⟨8, _⟩ => ⟨S1x3072, .f32⟩
  | .local _ .smem, ⟨0, _⟩ => ⟨S8, .f32⟩
  | _, _ => ⟨S2x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32_22 : BitVec 32 := 0#32
  let v67 : BitVec 1 := Scalar.cmpi .eq arg0 c0_i32_22
  let v68 : BitVec 32 := Scalar.extui v67
  let c0_i32_23 : BitVec 32 := 0#32
  let v69 : BitVec 1 := Scalar.cmpi .ne v68 c0_i32_23
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PrepRefIdeal.lean ====
abbrev S2x1536x3072 : Shape := ⟨3, ![2, 1536, 3072]⟩
abbrev S3072 : Shape := ⟨1, ![3072]⟩
abbrev S3x16 : Shape := ⟨2, ![3, 16]⟩
abbrev S3072x3072 : Shape := ⟨2, ![3072, 3072]⟩
abbrev S1x3072 : Shape := ⟨2, ![1, 3072]⟩
abbrev S8 : Shape := ⟨1, ![8]⟩
abbrev S3072x1 : Shape := ⟨2, ![3072, 1]⟩
abbrev S3 : Shape := ⟨1, ![3]⟩
abbrev S3x1 : Shape := ⟨2, ![3, 1]⟩
abbrev S1x1 : Shape := ⟨2, ![1, 1]⟩
abbrev S1 : Shape := ⟨1, ![1]⟩

abbrev nBuf : Space → Nat
  | .hbm => 9
  | .vmem => 6
  | .smem => 1
  | _ => 0

abbrev bufTy : (tb : Table) → Fin (tcTables nBuf tb) → BufTy
  | .hbm, ⟨0, _⟩ => ⟨S2x1536x3072, .bf16⟩
  | .hbm, ⟨1, _⟩ => ⟨S3072, .bf16⟩
  | .hbm, ⟨2, _⟩ => ⟨S3x16, .f32⟩
  | .hbm, ⟨3, _⟩ => ⟨S3072x3072, .bf16⟩
  | .hbm, ⟨4, _⟩ => ⟨S1x3072, .bf16⟩
  | .hbm, ⟨5, _⟩ => ⟨S3072x3072, .fp8e4m3⟩
  | .hbm, ⟨6, _⟩ => ⟨S3072x3072, .fp8e4m3⟩
  | .hbm, ⟨7, _⟩ => ⟨S1x3072, .f32⟩
  | .hbm, ⟨8, _⟩ => ⟨S8, .f32⟩
  | .local _ .vmem, ⟨0, _⟩ => ⟨S3072x3072, .bf16⟩
  | .local _ .vmem, ⟨1, _⟩ => ⟨S1x3072, .bf16⟩
  | .local _ .vmem, ⟨2, _⟩ => ⟨S3x16, .f32⟩
  | .local _ .vmem, ⟨3, _⟩ => ⟨S3072x3072, .fp8e4m3⟩
  | .local _ .vmem, ⟨4, _⟩ => ⟨S3072x3072, .fp8e4m3⟩
  | .local _ .vmem, ⟨5, _⟩ => ⟨S1x3072, .f32⟩
  | .local _ .smem, ⟨0, _⟩ => ⟨S8, .f32⟩
  | _, _ => ⟨S2x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Common.lean ====
module

public import Idealize.ShloMosaic.Lib.MatmulPlain
public import Idealize.ShloMosaic.Lib.ValueIdx
public import Idealize.ShloMosaic.Lib.Pipeline.Value
public import Idealize.ShloMosaic.Lib.Tactic

/-!
Small facts the value proofs of both calls use: a scalar load from the eight scales, and the two kinds of matrix product
(with and without a transposed right operand) read at an index over the extended reals.
-/

@[expose] public section

noncomputable section

open Idealize.ShloMosaic Idealize.ShloMosaic.ValueIdx
open scoped BigOperators

namespace Cert.Common

theorem hz : (![0, 0] : Fin 2 → Nat) = fun _ => 0 := funext fun a => by fin_cases a <;> rfl

/-- A load of one element of a vector reads that element. -/
theorem ld_scalar {Val : EltTy → Type} {e : EltTy} {N : Nat} (x : (⟨1, ![N]⟩ : Shape).Idx → Val e) (n : Nat) (hn : n < N)
    (inb : ∀ a, (![n] : Fin 1 → Nat) a + (![1] : Fin 1 → Nat) a ≤ (⟨1, ![N]⟩ : Shape).size a)
    (j : (Rect.unit (s := ⟨1, ![N]⟩) ![n] ![1] inb).shape.Idx) :
    View.ld x (Rect.unit (s := ⟨1, ![N]⟩) ![n] ![1] inb) j = x (ix1 ⟨n, hn⟩) := by
  refine congrArg x (funext fun a => Fin.ext ?_)
  have h : (j 0).val < 1 := (j 0).isLt
  match a with
  | ⟨0, _⟩ => show n + 1 * (j 0).val = n; omega

/-- `[M,K] × [K,N]` into a zero accumulator, at row `r` and column `c`. -/
theorem matmul_plain_zero {M K N : ℕ} {φ₁ φ₂ : FTy} (prec : Option ContractPrecision)
    (x : FVec Ideal ⟨2, ![M, K]⟩ φ₁) (y : FVec Ideal ⟨2, ![K, N]⟩ φ₂) (r : Fin M) (c : Fin N) :
    FloatOps.matmul (DotDims.plain M K N) prec x y (constant ⟨2, ![M, N]⟩ .f32 0x00000000#32) (ix2 r c)
      = (∑ k : Fin K, (x (ix2 r k) * y (ix2 k c) : EReal)) := by
  rw [Ideal.matmul_plain_apply]; simp [constant_apply]

/-- `[M,K] × [N,K]ᵀ` into a zero accumulator, at row `r` and column `c`. -/
theorem matmul_transposed_zero {M K N : ℕ} {φ₁ φ₂ : FTy} (prec : Option ContractPrecision)
    (x : FVec Ideal ⟨2, ![M, K]⟩ φ₁) (y : FVec Ideal ⟨2, ![N, K]⟩ φ₂) (r : Fin M) (c : Fin N) :
    FloatOps.matmul (DotDims.transposedRhs M K N) prec x y (constant ⟨2, ![M, N]⟩ .f32 0x00000000#32) (ix2 r c)
      = (∑ k : Fin K, (x (ix2 r k) * y (ix2 c k) : EReal)) := by
  rw [Ideal.matmul_transposedRhs_apply]; simp [constant_apply]

/-- The maximum over the rows of `[M,512]`, as a `[1,512]` row: at column `i 1`, the supremum over the rows. -/
theorem colmax_apply {M : Nat} (v : FVec Ideal ⟨2, ![M, 512]⟩ .f32) (h : Shape.Reduces ⟨2, ![M, 512]⟩ [0] ⟨1, ![512]⟩)
    (hφ : FKind.Formats .f32) (hacc : (0xFF800000#32 : BitVec 32) = FKind.maximumf.neutral .f32 hφ)
    (hs : (⟨1, ![512]⟩ : Shape).ShapeCasts ⟨2, ![1, 512]⟩) (i : (⟨2, ![1, 512]⟩ : Shape).Idx) :
    shapeCast ⟨2, ![1, 512]⟩ (multiReduction .maximumf [0] ⟨1, ![512]⟩ v 0xFF800000#32 h hφ hacc) hs i
      = ⨆ r : Fin M, (v (ix2 r (i 1)) : EReal) := by
  rw [shapeCast_apply _ hs i (ix1 (i 1)) (by
    rw [Shape.rowMajor_val_one, Shape.rowMajor_val_two]
    have h0 : (i 0).val < 1 := (i 0).isLt
    show (i 1).val = (i 0).val * 512 + (i 1).val
    omega)]
  rw [Ideal.multiReduction_maximumf_single]
  have hl : ∀ k : Fin M, h.lift (ix1 (i 1)) k = ix2 k (i 1) := fun k => funext fun d => Fin.ext (by
    match d with
    | ⟨0, _⟩ => rfl
    | ⟨1, _⟩ => rfl)
  refine eq_of_forall_ge_iff fun z => ?_
  rw [Finset.fold_max_le, iSup_le_iff]
  constructor
  · intro hz k
    exact le_of_eq_of_le (congrArg v (hl k)).symm (hz.2 k (Finset.mem_univ _))
  · intro hz
    refine ⟨?_, fun k _ => ?_⟩
    · rw [show (FloatOps.ofBits .f32 (0xFF800000#32) : Ideal .f32) = (⊥ : EReal) from by simp [Ideal.ofBits, Ideal.ieee]]; exact bot_le
    · exact le_of_eq_of_le (congrArg v (hl k)) (hz k)

/-- A magnitude is not negative. -/
theorem abs_nonneg (x : EReal) : 0 ≤ max x (-x) := by
  rcases le_total 0 x with h | h
  · exact h.trans (le_max_left _ _)
  · exact (EReal.neg_nonneg.mpr h).trans (le_max_right _ _)

end Cert.Common
-- ==== Proof.Spec.lean ====
module

public import proofs.«01_k».proof.Proof.Common

/-!
What the results are, as plain functions of the arguments over the extended reals.
-/

@[expose] public section

noncomputable section

open Idealize.ShloMosaic Idealize.ShloMosaic.ValueIdx
open scoped BigOperators

namespace Cert.Dx.Spec

/-- The input gradient at row `i 0`, column `i 1`: the full contraction over the 8192 columns, scaled. -/
def dx (sc : (⟨1, ![8]⟩ : Shape).Idx → EReal) (g w : (⟨2, ![3072, 8192]⟩ : Shape).Idx → EReal) :
    (⟨2, ![3072, 3072]⟩ : Shape).Idx → EReal :=
  fun i => (∑ k : Fin 8192, g (ix2 (i 0) k) * w (ix2 (i 1) k)) * (sc (ix1 2) * sc (ix1 1))

end Cert.Dx.Spec

namespace Cert.Fwd.Spec

/-- The weight's code: scaled, clipped to ±448 (rounding to the format is the identity over the extended reals). -/
def quantW (x s : EReal) : EReal := min (Ideal.ofBits .f32 0x43E00000#32) (max (Ideal.ofBits .f32 0xC3E00000#32) (x * s))

/-- The gradient's code: scaled, clipped to ±57344. -/
def quantDy (x s : EReal) : EReal := min (Ideal.ofBits .f32 0x47600000#32) (max (Ideal.ofBits .f32 0xC7600000#32) (x * s))

variable {m n : Nat}

/-- The forward product of `n` columns: row `i 0` of the activation codes with column `i 1` of the weight's codes. -/
def y (sc : (⟨1, ![8]⟩ : Shape).Idx → EReal) (h : (⟨2, ![3072, 3072]⟩ : Shape).Idx → EReal)
    (w : (⟨2, ![3072, n]⟩ : Shape).Idx → EReal) : (⟨2, ![3072, n]⟩ : Shape).Idx → EReal :=
  fun i => (∑ k : Fin 3072, h (ix2 (i 0) k) * quantW (w (ix2 k (i 1))) (sc (ix1 4))) * (sc (ix1 0) * sc (ix1 1))

/-- The weight gradient of `n` columns, from the transposed activation codes and the gradient's codes. -/
def dw (sc : (⟨1, ![8]⟩ : Shape).Idx → EReal) (ht : (⟨2, ![3072, 3072]⟩ : Shape).Idx → EReal)
    (dy : (⟨2, ![3072, n]⟩ : Shape).Idx → EReal) : (⟨2, ![3072, n]⟩ : Shape).Idx → EReal :=
  fun i => (∑ k : Fin 3072, ht (ix2 (i 0) k) * quantDy (dy (ix2 k (i 1))) (sc (ix1 5))) * (sc (ix1 0) * sc (ix1 2))

/-- The weight's codes. -/
def wCodes (sc : (⟨1, ![8]⟩ : Shape).Idx → EReal) (w : (⟨2, ![3072, n]⟩ : Shape).Idx → EReal) :
    (⟨2, ![3072, n]⟩ : Shape).Idx → EReal := fun i => quantW (w i) (sc (ix1 4))

/-- The gradient's codes. -/
def dyCodes (sc : (⟨1, ![8]⟩ : Shape).Idx → EReal) (dy : (⟨2, ![3072, n]⟩ : Shape).Idx → EReal) :
    (⟨2, ![3072, n]⟩ : Shape).Idx → EReal := fun i => quantDy (dy i) (sc (ix1 5))

/-- The largest magnitude in the columns `q`, `512 + q`, `1024 + q`, …: over all rows and all sixteen blocks of 512 columns. -/
def colMax (w : (⟨2, ![3072, 8192]⟩ : Shape).Idx → EReal) : (⟨2, ![1, 512]⟩ : Shape).Idx → EReal :=
  fun i => ⨆ b : Fin 16, ⨆ r : Fin 3072, max (w (ix2 r ⟨b.val * 512 + (i 1).val, by have := (i 1).isLt; have : (i 1).val < 512 := this; omega⟩))
    (-w (ix2 r ⟨b.val * 512 + (i 1).val, by have := (i 1).isLt; have : (i 1).val < 512 := this; omega⟩))

/-! Each of the four depends on one column of the array it is taken of, so a block of columns has the values of the whole. -/

theorem y_block (sc : (⟨1, ![8]⟩ : Shape).Idx → EReal) (h : (⟨2, ![3072, 3072]⟩ : Shape).Idx → EReal) (v : (⟨2, ![3072, m]⟩ : Shape).Idx → EReal) (w : (⟨2, ![3072, n]⟩ : Shape).Idx → EReal) (r : Fin 3072) (q : Fin m) (q' : Fin n)
    (H : ∀ k, v (ix2 k q) = w (ix2 k q')) : y sc h v (ix2 r q) = y sc h w (ix2 r q') := by
  show (∑ k : Fin 3072, h (ix2 r k) * quantW (v (ix2 k q)) (sc (ix1 4))) * _ = (∑ k : Fin 3072, h (ix2 r k) * quantW (w (ix2 k q')) (sc (ix1 4))) * _
  simp only [H]

theorem dw_block (sc : (⟨1, ![8]⟩ : Shape).Idx → EReal) (h : (⟨2, ![3072, 3072]⟩ : Shape).Idx → EReal) (v : (⟨2, ![3072, m]⟩ : Shape).Idx → EReal) (w : (⟨2, ![3072, n]⟩ : Shape).Idx → EReal) (r : Fin 3072) (q : Fin m) (q' : Fin n)
    (H : ∀ k, v (ix2 k q) = w (ix2 k q')) : dw sc h v (ix2 r q) = dw sc h w (ix2 r q') := by
  show (∑ k : Fin 3072, h (ix2 r k) * quantDy (v (ix2 k q)) (sc (ix1 5))) * _ = (∑ k : Fin 3072, h (ix2 r k) * quantDy (w (ix2 k q')) (sc (ix1 5))) * _
  simp only [H]

theorem wCodes_block (sc : (⟨1, ![8]⟩ : Shape).Idx → EReal) (v : (⟨2, ![3072, m]⟩ : Shape).Idx → EReal) (w : (⟨2, ![3072, n]⟩ : Shape).Idx → EReal) (r : Fin 3072) (q : Fin m) (q' : Fin n)
    (H : ∀ k, v (ix2 k q) = w (ix2 k q')) : wCodes sc v (ix2 r q) = wCodes sc w (ix2 r q') := by
  show quantW (v (ix2 r q)) _ = quantW (w (ix2 r q')) _
  rw [H]

theorem dyCodes_block (sc : (⟨1, ![8]⟩ : Shape).Idx → EReal) (v : (⟨2, ![3072, m]⟩ : Shape).Idx → EReal) (w : (⟨2, ![3072, n]⟩ : Shape).Idx → EReal) (r : Fin 3072) (q : Fin m) (q' : Fin n)
    (H : ∀ k, v (ix2 k q) = w (ix2 k q')) : dyCodes sc v (ix2 r q) = dyCodes sc w (ix2 r q') := by
  show quantDy (v (ix2 r q)) _ = quantDy (w (ix2 r q')) _
  rw [H]

end Cert.Fwd.Spec

end
-- ==== Proof.FwdRun.lean ====
module

public import proofs.«01_k».proof.Proof.Gen.FwdDwIdeal.Frame
public import Idealize.ShloMosaic.Lib.Pipeline.Value
public import Idealize.ShloMosaic.Lib.Claim

/-!
The run of the idealised `fwd_dw`, each result after it named: what each grid point writes back, block by block, and what the host
lines after the call leave.
-/

@[expose] public section

noncomputable section

namespace Cert.FwdDwIdeal.Value

open Cert.FwdDwIdeal Cert.FwdDwIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed5, outsAt0_B m c t h0]

/-- The index map sends distinct grid points to distinct block indices (decided over the 16 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S3072x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- What point `t` writes back to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed6, outsAt0_B m c t h0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S3072x8192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- What point `t` writes back to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed7, outsAt0_B m c t h0]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S3072x8192.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- What point `t` writes back to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 16 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 16 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed8, outsAt0_B m c t h0]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S3072x8192.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- What point `t` writes back to output window 9's array: the run's contents for that window after the body (`Gen.outsAt0`: its component 4), read through the window's block. -/
theorem flushed9 (c : Dev nD) (t : Fin cfg0.N) :
    (dats m 0 c).flushed 9 t = (cfg0.win 9).cut (grid0.coords t) ((outsAt0 m c t.val t.isLt).2.2.2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 16 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 16 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- What point `t` writes back to output window 10's array: the run's contents for that window after the body (`Gen.outsAt0`: its component 5), read through the window's block. -/
theorem flushed10 (c : Dev nD) (t : Fin cfg0.N) :
    (dats m 0 c).flushed 10 t = (cfg0.win 10).cut (grid0.coords t) ((outsAt0 m c t.val t.isLt).2.2.2.2.2) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 16 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 16 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed10, outsAt0_B m c t h0]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S1x512.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 5's array is `(dats m 0 c).arrAt 5 N`. -/
theorem post5 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_4) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_5) = (dats m 0 c).arrAt 10 cfg0.N :=
  (h c).1 10

/-- The new history, as the host lines after the call leave it. -/
abbrev tail (c : Dev nD) : Buf (Elt F) ((c : Thread nD τ).loc main_v11) := Pipeline.afterTail₀ cfgs (dats m) 0 (V0 m) [hostOps1] c main_v11

theorem post_tail (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v11) = tail m c :=
  (h c).2 main_v11 (Pipeline.mem_restRefs_of main_v11 (by decide) (by decide))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_v1_4) = (dats m 0 c).arrAt 9 cfg0.N
      ∧ r.2.mem ((c : Thread nD τ).loc main_v1_5) = (dats m 0 c).arrAt 10 cfg0.N
      ∧ r.2.mem ((c : Thread nD τ).loc main_v11) = tail m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h.1 c, post6 m r h.1 c, post7 m r h.1 c, post8 m r h.1 c, post9 m r h.1 c, post10 m r h.1 c,
      post_tail m r h.1 c, h.2 c⟩)
    (θ_run_and (run_main m ρ) (unchanged m ρ))

end Cert.FwdDwIdeal.Value

end
-- ==== Proof.FwdTile.lean ====
module

public import proofs.«01_k».proof.Proof.Spec
public import proofs.«01_k».proof.Proof.FwdRun

@[expose] public section

noncomputable section

open Idealize.ShloMosaic Idealize.ShloMosaic.TcCoe Idealize.SL.Sem Idealize.ShloMosaic.ValueIdx
open Idealize.ShloMosaic.Pipeline (Dat)
open scoped BigOperators

namespace Cert.FwdDwIdeal.Value

open Cert.FwdDwIdeal Cert.FwdDwIdeal.Gen Cert.Common

/-- The payload of the weight's codes. -/
theorem pay9 (v : Vec Ideal S3072x512 .bf16) (s : Elt Ideal .f32) :
    (k0_pay9 v s : S3072x512.Idx → EReal) = fun i => Cert.Fwd.Spec.quantW (v i) s := rfl

/-- The payload of the gradient's codes. -/
theorem pay10 (v : FVec Ideal S3072x512 .bf16) (s : Elt Ideal .f32) :
    (k0_pay10 v s : S3072x512.Idx → EReal) = fun i => Cert.Fwd.Spec.quantDy (v i) s := rfl

/-- A product tile of 512 rows, starting at row `r` of the left operand `h`, scaled by `s`. -/
theorem tile (r : Nat) (hr : r + 512 ≤ 3072) {φ₁ φ₂ : FTy} (h : FVec Ideal S3072x3072 φ₁) (v : FVec Ideal S3072x512 φ₂) (s : EReal)
    (inb : ∀ a, (![r, 0] : Fin 2 → Nat) a + (![512, 3072] : Fin 2 → Nat) a ≤ S3072x3072.size a)
    (inb' : ∀ a, (![r, 0] : Fin 2 → Nat) a + (![512, 512] : Fin 2 → Nat) a ≤ S3072x512.size a)
    (l : FVec Ideal S512x3072 φ₁) (hl : ∀ i, l i = h ((Rect.unit (s := S3072x3072) ![r, 0] ![512, 3072] inb).emb i))
    (prec : Option ContractPrecision) (x : S512x512.Idx) :
    FloatOps.matmul (DotDims.plain 512 3072 512) prec l v
        (constant S512x512 .f32 0x00000000#32) x * s
      = (fun i : S3072x512.Idx => (∑ k : Fin 3072, h (ix2 (i 0) k) * v (ix2 k (i 1))) * s)
          ((Rect.unit (s := S3072x512) ![r, 0] ![512, 512] inb').emb x) := by
  obtain ⟨a, b, rfl⟩ : ∃ a b, x = ix2 a b := ⟨_, _, eq_ix2 x⟩
  have ha : a.val < 512 := a.isLt
  have he : (Rect.unit (s := S3072x512) ![r, 0] ![512, 512] inb').emb (ix2 a b) = (ix2 ⟨r + a.val, by omega⟩ b : S3072x512.Idx) := by
    funext d; refine Fin.ext ?_
    match d with
    | ⟨0, _⟩ => show r + 1 * a.val = r + a.val; omega
    | ⟨1, _⟩ => show 0 + 1 * b.val = b.val; omega
  rw [he, matmul_plain_zero]
  show _ = (∑ k : Fin 3072, h (ix2 (⟨r + a.val, by omega⟩ : Fin 3072) k) * v (ix2 k b)) * s
  congr 1
  refine Finset.sum_congr rfl fun k _ => ?_
  congr 1
  rw [hl]
  refine congrArg h (funext fun d => Fin.ext ?_)
  match d with
  | ⟨0, _⟩ => show r + 1 * a.val = r + a.val; omega
  | ⟨1, _⟩ => show 0 + 1 * k.val = k.val; omega

end Cert.FwdDwIdeal.Value

end
-- ==== Proof.FwdOutA.lean ====
module

public import proofs.«01_k».proof.Proof.FwdTile
public import proofs.«01_k».proof.Proof.FwdRun

@[expose] public section

noncomputable section

open Idealize.ShloMosaic Idealize.ShloMosaic.TcCoe Idealize.SL.Sem Idealize.ShloMosaic.ValueIdx
open Idealize.ShloMosaic.Pipeline (Dat)
open scoped BigOperators

namespace Cert.FwdDwIdeal.Value

open Cert.FwdDwIdeal Cert.FwdDwIdeal.Gen Cert.Common

/-- The code block of a grid point (first points), result 2. -/
theorem out_A_7 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) :
    out0_A_7 c i arg1 harg1 arg2 harg2 arg3 harg3 arg4 harg4 arg5 harg5 arg6 harg6 arg7 harg7 arg8 harg8 arg9 harg9 arg10 harg10 arg11 harg11 hc0 x0 x1 x2 x3 x4 = Cert.Fwd.Spec.wCodes x0 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_unit_zero hz]
  simp only [View.readAt_eq_ld, harg1.read_unread, harg4.read_unread, View.ld_unit_zero (S := S3072x512) hz, ld_scalar x0 4 (by decide), pay9, shapeCast_self]
  rfl

/-- The code block of a grid point (first points), result 3. -/
theorem out_A_8 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) :
    out0_A_8 c i arg1 harg1 arg2 harg2 arg3 harg3 arg4 harg4 arg5 harg5 arg6 harg6 arg7 harg7 arg8 harg8 arg9 harg9 arg10 harg10 arg11 harg11 hc0 x0 x1 x2 x3 x4 = Cert.Fwd.Spec.dyCodes x0 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_unit_zero hz]
  simp only [View.readAt_eq_ld, harg1.read_unread, harg5.read_unread, View.ld_unit_zero (S := S3072x512) hz, ld_scalar x0 5 (by decide), k0_pay6, pay10, shapeCast_self]
  rfl

/-- The running maximum after a grid point (first points), result 4. -/
theorem out_A_9 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) :
    out0_A_9 c i arg1 harg1 arg2 harg2 arg3 harg3 arg4 harg4 arg5 harg5 arg6 harg6 arg7 harg7 arg8 harg8 arg9 harg9 arg10 harg10 arg11 harg11 hc0 x0 x1 x2 x3 x4 = k0_pay7 x3 (k0_pay4 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_cons_unit_zero (S := S1x512) hz, View.readCov_unit_zero (S := S1x512) _ hz]
  simp only [View.readAt_eq_ld, harg4.read_unread, View.ld_unit_zero (S := S3072x512) hz, View.ld_unit_zero (S := S1x512) hz]

/-- The running maximum after a grid point (first points), result 5. -/
theorem out_A_10 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) :
    out0_A_10 c i arg1 harg1 arg2 harg2 arg3 harg3 arg4 harg4 arg5 harg5 arg6 harg6 arg7 harg7 arg8 harg8 arg9 harg9 arg10 harg10 arg11 harg11 hc0 x0 x1 x2 x3 x4 = k0_pay8 x4 (k0_pay5 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  rw [View.canon_cons_unit_zero (S := S1x512) hz, View.readCov_unit_zero (S := S1x512) _ hz]
  simp only [View.readAt_eq_ld, harg5.read_unread, View.ld_unit_zero (S := S3072x512) hz, View.ld_unit_zero (S := S1x512) hz]

/-- The product block of a grid point (first points), result 0. -/
theorem out_A_5 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) :
    out0_A_5 c i arg1 harg1 arg2 harg2 arg3 harg3 arg4 harg4 arg5 harg5 arg6 harg6 arg7 harg7 arg8 harg8 arg9 harg9 arg10 harg10 arg11 harg11 hc0 x0 x1 x2 x3 x4 = Cert.Fwd.Spec.y x0 x1 x3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 x0 x1 x2 x3 x4)]
  refine funext fun j => View.canon_apply_of_pieces (Cert.Fwd.Spec.y x0 x1 x3) _ ?_ j (cover0_A_5 c i arg1 harg1 arg2 harg2 arg3 harg3 arg4 harg4 arg5 harg5 arg6 harg6 arg7 harg7 arg8 harg8 arg9 harg9 arg10 harg10 arg11 harg11 hc0 x0 x1 x2 x3 x4 j)
  unfold kernelRun0_A
  dsimp only
  sl_unfold_words
  simp only [View.readAt_eq_ld, harg1.read_unread, harg2.read_unread, harg4.read_unread, List.forall_mem_cons, List.not_mem_nil, IsEmpty.forall_iff, implies_true, and_true,
    View.readCov_unit_zero (S := S3072x512) _ hz, View.ld_unit_zero (S := S3072x512) hz, ld_scalar x0 4 (by decide), ld_scalar x0 0 (by decide), ld_scalar x0 1 (by decide),
    k0_pay12, k0_pay13, k0_pay14, k0_pay15, k0_pay16, k0_pay17, k0_pay18, k0_pay11, pay9, shapeCast_self]
  refine ⟨?_, ?_, ?_, ?_, ?_, ?_⟩
  · exact fun x => tile 2560 (by decide) x1 (fun i => Cert.Fwd.Spec.quantW (x3 i) (x0 (ix1 4))) (x0 (ix1 0) * x0 (ix1 1)) inb_S3072x3072_S512x3072_2560_0 inb_S3072x512_S512x512_2560_0 _ (fun _ => rfl) none x
  · exact fun x => tile 2048 (by decide) x1 (fun i => Cert.Fwd.Spec.quantW (x3 i) (x0 (ix1 4))) (x0 (ix1 0) * x0 (ix1 1)) inb_S3072x3072_S512x3072_2048_0 inb_S3072x512_S512x512_2048_0 _ (fun _ => rfl) none x
  · exact fun x => tile 1536 (by decide) x1 (fun i => Cert.Fwd.Spec.quantW (x3 i) (x0 (ix1 4))) (x0 (ix1 0) * x0 (ix1 1)) inb_S3072x3072_S512x3072_1536_0 inb_S3072x512_S512x512_1536_0 _ (fun _ => rfl) none x
  · exact fun x => tile 1024 (by decide) x1 (fun i => Cert.Fwd.Spec.quantW (x3 i) (x0 (ix1 4))) (x0 (ix1 0) * x0 (ix1 1)) inb_S3072x3072_S512x3072_1024_0 inb_S3072x512_S512x512_1024_0 _ (fun _ => rfl) none x
  · exact fun x => tile 512 (by decide) x1 (fun i => Cert.Fwd.Spec.quantW (x3 i) (x0 (ix1 4))) (x0 (ix1 0) * x0 (ix1 1)) inb_S3072x3072_S512x3072_512_0 inb_S3072x512_S512x512_512_0 _ (fun _ => rfl) none x
  · exact fun x => tile 0 (by decide) x1 (fun i => Cert.Fwd.Spec.quantW (x3 i) (x0 (ix1 4))) (x0 (ix1 0) * x0 (ix1 1)) inb_S3072x3072_S512x3072_0_0 inb_S3072x512_S512x512_0_0 _ (fun _ => rfl) none x

/-- The product block of a grid point (first points), result 1. -/
theorem out_A_6 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) :
    out0_A_6 c i arg1 harg1 arg2 harg2 arg3 harg3 arg4 harg4 arg5 harg5 arg6 harg6 arg7 harg7 arg8 harg8 arg9 harg9 arg10 harg10 arg11 harg11 hc0 x0 x1 x2 x3 x4 = Cert.Fwd.Spec.dw x0 x2 x4 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4)]
  refine funext fun j => View.canon_apply_of_pieces (Cert.Fwd.Spec.dw x0 x2 x4) _ ?_ j (cover0_A_6 c i arg1 harg1 arg2 harg2 arg3 harg3 arg4 harg4 arg5 harg5 arg6 harg6 arg7 harg7 arg8 harg8 arg9 harg9 arg10 harg10 arg11 harg11 hc0 x0 x1 x2 x3 x4 j)
  unfold kernelRun0_A
  dsimp only
  sl_unfold_words
  simp only [View.readAt_eq_ld, harg1.read_unread, harg3.read_unread, harg5.read_unread, List.forall_mem_cons, List.not_mem_nil, IsEmpty.forall_iff, implies_true, and_true,
    View.readCov_unit_zero (S := S3072x512) _ hz, View.ld_unit_zero (S := S3072x512) hz, ld_scalar x0 5 (by decide), ld_scalar x0 0 (by decide), ld_scalar x0 2 (by decide),
    k0_pay20, k0_pay21, k0_pay22, k0_pay23, k0_pay1, k0_pay2, k0_pay3, k0_pay19, k0_pay6, pay10, shapeCast_self]
  refine ⟨?_, ?_, ?_, ?_, ?_, ?_⟩
  · exact fun x => tile 2560 (by decide) x2 (fun i => Cert.Fwd.Spec.quantDy (x4 i) (x0 (ix1 5))) (x0 (ix1 0) * x0 (ix1 2)) inb_S3072x3072_S512x3072_2560_0 inb_S3072x512_S512x512_2560_0 _ (fun _ => rfl) none x
  · exact fun x => tile 2048 (by decide) x2 (fun i => Cert.Fwd.Spec.quantDy (x4 i) (x0 (ix1 5))) (x0 (ix1 0) * x0 (ix1 2)) inb_S3072x3072_S512x3072_2048_0 inb_S3072x512_S512x512_2048_0 _ (fun _ => rfl) none x
  · exact fun x => tile 1536 (by decide) x2 (fun i => Cert.Fwd.Spec.quantDy (x4 i) (x0 (ix1 5))) (x0 (ix1 0) * x0 (ix1 2)) inb_S3072x3072_S512x3072_1536_0 inb_S3072x512_S512x512_1536_0 _ (fun _ => rfl) none x
  · exact fun x => tile 1024 (by decide) x2 (fun i => Cert.Fwd.Spec.quantDy (x4 i) (x0 (ix1 5))) (x0 (ix1 0) * x0 (ix1 2)) inb_S3072x3072_S512x3072_1024_0 inb_S3072x512_S512x512_1024_0 _ (fun _ => rfl) none x
  · exact fun x => tile 512 (by decide) x2 (fun i => Cert.Fwd.Spec.quantDy (x4 i) (x0 (ix1 5))) (x0 (ix1 0) * x0 (ix1 2)) inb_S3072x3072_S512x3072_512_0 inb_S3072x512_S512x512_512_0 _ (fun _ => rfl) none x
  · exact fun x => tile 0 (by decide) x2 (fun i => Cert.Fwd.Spec.quantDy (x4 i) (x0 (ix1 5))) (x0 (ix1 0) * x0 (ix1 2)) inb_S3072x3072_S512x3072_0_0 inb_S3072x512_S512x512_0_0 _ (fun _ => rfl) none x

end Cert.FwdDwIdeal.Value

end
-- ==== Proof.FwdOutB.lean ====
module

public import proofs.«01_k».proof.Proof.FwdTile
public import proofs.«01_k».proof.Proof.FwdRun

@[expose] public section

noncomputable section

open Idealize.ShloMosaic Idealize.ShloMosaic.TcCoe Idealize.SL.Sem Idealize.ShloMosaic.ValueIdx
open Idealize.ShloMosaic.Pipeline (Dat)
open scoped BigOperators

namespace Cert.FwdDwIdeal.Value

open Cert.FwdDwIdeal Cert.FwdDwIdeal.Gen Cert.Common

/-- The code block of a grid point (later points), result 2. -/
theorem out_B_7 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : ¬cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) (xo9 : Vec Ideal S1x512 .f32) (xo10 : Vec Ideal S1x512 .f32) :
    out0_B_7 c i arg1 harg1 arg2 harg2 arg3 harg3 arg4 harg4 arg5 harg5 arg6 harg6 arg7 harg7 arg8 harg8 arg9 harg9 arg10 harg10 arg11 harg11 hc0 x0 x1 x2 x3 x4 xo9 xo10 = Cert.Fwd.Spec.wCodes x0 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 xo9 xo10)]
  unfold kernelRun0_B
  dsimp only
  sl_unfold_words
  rw [View.canon_unit_zero hz]
  simp only [View.readAt_eq_ld, harg1.read_unread, harg4.read_unread, View.ld_unit_zero (S := S3072x512) hz, ld_scalar x0 4 (by decide), pay9, shapeCast_self]
  rfl

/-- The code block of a grid point (later points), result 3. -/
theorem out_B_8 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : ¬cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) (xo9 : Vec Ideal S1x512 .f32) (xo10 : Vec Ideal S1x512 .f32) :
    out0_B_8 c i arg1 harg1 arg2 harg2 arg3 harg3 arg4 harg4 arg5 harg5 arg6 harg6 arg7 harg7 arg8 harg8 arg9 harg9 arg10 harg10 arg11 harg11 hc0 x0 x1 x2 x3 x4 xo9 xo10 = Cert.Fwd.Spec.dyCodes x0 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 xo9 xo10)]
  unfold kernelRun0_B
  dsimp only
  sl_unfold_words
  rw [View.canon_unit_zero hz]
  simp only [View.readAt_eq_ld, harg1.read_unread, harg5.read_unread, View.ld_unit_zero (S := S3072x512) hz, ld_scalar x0 5 (by decide), k0_pay6, pay10, shapeCast_self]
  rfl

/-- The running maximum after a grid point (later points), result 4. -/
theorem out_B_9 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : ¬cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) (xo9 : Vec Ideal S1x512 .f32) (xo10 : Vec Ideal S1x512 .f32) :
    out0_B_9 c i arg1 harg1 arg2 harg2 arg3 harg3 arg4 harg4 arg5 harg5 arg6 harg6 arg7 harg7 arg8 harg8 arg9 harg9 arg10 harg10 arg11 harg11 hc0 x0 x1 x2 x3 x4 xo9 xo10 = k0_pay7 x3 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 xo9 xo10)]
  unfold kernelRun0_B
  dsimp only
  sl_unfold_words
  rw [View.canon_unit_zero hz]
  simp only [View.readAt_eq_ld, harg4.read_unread, harg10.read_unread, View.ld_unit_zero (S := S3072x512) hz, View.ld_unit_zero (S := S1x512) hz]

/-- The running maximum after a grid point (later points), result 5. -/
theorem out_B_10 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : ¬cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) (xo9 : Vec Ideal S1x512 .f32) (xo10 : Vec Ideal S1x512 .f32) :
    out0_B_10 c i arg1 harg1 arg2 harg2 arg3 harg3 arg4 harg4 arg5 harg5 arg6 harg6 arg7 harg7 arg8 harg8 arg9 harg9 arg10 harg10 arg11 harg11 hc0 x0 x1 x2 x3 x4 xo9 xo10 = k0_pay8 x4 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 xo9 xo10)]
  unfold kernelRun0_B
  dsimp only
  sl_unfold_words
  rw [View.canon_unit_zero hz]
  simp only [View.readAt_eq_ld, harg5.read_unread, harg11.read_unread, View.ld_unit_zero (S := S3072x512) hz, View.ld_unit_zero (S := S1x512) hz]

/-- The product block of a grid point (later points), result 0. -/
theorem out_B_5 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : ¬cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) (xo9 : Vec Ideal S1x512 .f32) (xo10 : Vec Ideal S1x512 .f32) :
    out0_B_5 c i arg1 harg1 arg2 harg2 arg3 harg3 arg4 harg4 arg5 harg5 arg6 harg6 arg7 harg7 arg8 harg8 arg9 harg9 arg10 harg10 arg11 harg11 hc0 x0 x1 x2 x3 x4 xo9 xo10 = Cert.Fwd.Spec.y x0 x1 x3 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 x0 x1 x2 x3 x4 xo9 xo10)]
  refine funext fun j => View.canon_apply_of_pieces (Cert.Fwd.Spec.y x0 x1 x3) _ ?_ j (cover0_B_5 c i arg1 harg1 arg2 harg2 arg3 harg3 arg4 harg4 arg5 harg5 arg6 harg6 arg7 harg7 arg8 harg8 arg9 harg9 arg10 harg10 arg11 harg11 hc0 x0 x1 x2 x3 x4 xo9 xo10 j)
  unfold kernelRun0_B
  dsimp only
  sl_unfold_words
  simp only [View.readAt_eq_ld, harg1.read_unread, harg2.read_unread, harg4.read_unread, List.forall_mem_cons, List.not_mem_nil, IsEmpty.forall_iff, implies_true, and_true,
    View.readCov_unit_zero (S := S3072x512) _ hz, View.ld_unit_zero (S := S3072x512) hz, ld_scalar x0 4 (by decide), ld_scalar x0 0 (by decide), ld_scalar x0 1 (by decide),
    k0_pay12, k0_pay13, k0_pay14, k0_pay15, k0_pay16, k0_pay17, k0_pay18, k0_pay11, pay9, shapeCast_self]
  refine ⟨?_, ?_, ?_, ?_, ?_, ?_⟩
  · exact fun x => tile 2560 (by decide) x1 (fun i => Cert.Fwd.Spec.quantW (x3 i) (x0 (ix1 4))) (x0 (ix1 0) * x0 (ix1 1)) inb_S3072x3072_S512x3072_2560_0 inb_S3072x512_S512x512_2560_0 _ (fun _ => rfl) none x
  · exact fun x => tile 2048 (by decide) x1 (fun i => Cert.Fwd.Spec.quantW (x3 i) (x0 (ix1 4))) (x0 (ix1 0) * x0 (ix1 1)) inb_S3072x3072_S512x3072_2048_0 inb_S3072x512_S512x512_2048_0 _ (fun _ => rfl) none x
  · exact fun x => tile 1536 (by decide) x1 (fun i => Cert.Fwd.Spec.quantW (x3 i) (x0 (ix1 4))) (x0 (ix1 0) * x0 (ix1 1)) inb_S3072x3072_S512x3072_1536_0 inb_S3072x512_S512x512_1536_0 _ (fun _ => rfl) none x
  · exact fun x => tile 1024 (by decide) x1 (fun i => Cert.Fwd.Spec.quantW (x3 i) (x0 (ix1 4))) (x0 (ix1 0) * x0 (ix1 1)) inb_S3072x3072_S512x3072_1024_0 inb_S3072x512_S512x512_1024_0 _ (fun _ => rfl) none x
  · exact fun x => tile 512 (by decide) x1 (fun i => Cert.Fwd.Spec.quantW (x3 i) (x0 (ix1 4))) (x0 (ix1 0) * x0 (ix1 1)) inb_S3072x3072_S512x3072_512_0 inb_S3072x512_S512x512_512_0 _ (fun _ => rfl) none x
  · exact fun x => tile 0 (by decide) x1 (fun i => Cert.Fwd.Spec.quantW (x3 i) (x0 (ix1 4))) (x0 (ix1 0) * x0 (ix1 1)) inb_S3072x3072_S512x3072_0_0 inb_S3072x512_S512x512_0_0 _ (fun _ => rfl) none x

/-- The product block of a grid point (later points), result 1. -/
theorem out_B_6 (c : Dev nD) (i : grid0.Coords) (arg1 : Memref sig .tc .smem S8 .f32) (harg1 : arg1.IsWhole) (arg2 : Memref sig .tc .vmem S3072x3072 .fp8e4m3) (harg2 : arg2.IsWhole) (arg3 : Memref sig .tc .vmem S3072x3072 .fp8e4m3) (harg3 : arg3.IsWhole) (arg4 : Memref sig .tc .vmem S3072x512 .bf16) (harg4 : arg4.IsWhole) (arg5 : Memref sig .tc .vmem S3072x512 .bf16) (harg5 : arg5.IsWhole) (arg6 : Memref sig .tc .vmem S3072x512 .bf16) (harg6 : arg6.IsWhole) (arg7 : Memref sig .tc .vmem S3072x512 .f32) (harg7 : arg7.IsWhole) (arg8 : Memref sig .tc .vmem S3072x512 .fp8e4m3) (harg8 : arg8.IsWhole) (arg9 : Memref sig .tc .vmem S3072x512 .fp8e5m2) (harg9 : arg9.IsWhole) (arg10 : Memref sig .tc .vmem S1x512 .f32) (harg10 : arg10.IsWhole) (arg11 : Memref sig .tc .vmem S1x512 .f32) (harg11 : arg11.IsWhole) (hc0 : ¬cond0_0 i)
    (x0 : Vec Ideal S8 .f32) (x1 : Vec Ideal S3072x3072 .fp8e4m3) (x2 : Vec Ideal S3072x3072 .fp8e4m3) (x3 : Vec Ideal S3072x512 .bf16) (x4 : Vec Ideal S3072x512 .bf16) (xo9 : Vec Ideal S1x512 .f32) (xo10 : Vec Ideal S1x512 .f32) :
    out0_B_6 c i arg1 harg1 arg2 harg2 arg3 harg3 arg4 harg4 arg5 harg5 arg6 harg6 arg7 harg7 arg8 harg8 arg9 harg9 arg10 harg10 arg11 harg11 hc0 x0 x1 x2 x3 x4 xo9 xo10 = Cert.Fwd.Spec.dw x0 x2 x4 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 xo9 xo10)]
  refine funext fun j => View.canon_apply_of_pieces (Cert.Fwd.Spec.dw x0 x2 x4) _ ?_ j (cover0_B_6 c i arg1 harg1 arg2 harg2 arg3 harg3 arg4 harg4 arg5 harg5 arg6 harg6 arg7 harg7 arg8 harg8 arg9 harg9 arg10 harg10 arg11 harg11 hc0 x0 x1 x2 x3 x4 xo9 xo10 j)
  unfold kernelRun0_B
  dsimp only
  sl_unfold_words
  simp only [View.readAt_eq_ld, harg1.read_unread, harg3.read_unread, harg5.read_unread, List.forall_mem_cons, List.not_mem_nil, IsEmpty.forall_iff, implies_true, and_true,
    View.readCov_unit_zero (S := S3072x512) _ hz, View.ld_unit_zero (S := S3072x512) hz, ld_scalar x0 5 (by decide), ld_scalar x0 0 (by decide), ld_scalar x0 2 (by decide),
    k0_pay20, k0_pay21, k0_pay22, k0_pay23, k0_pay1, k0_pay2, k0_pay3, k0_pay19, k0_pay6, pay10, shapeCast_self]
  refine ⟨?_, ?_, ?_, ?_, ?_, ?_⟩
  · exact fun x => tile 2560 (by decide) x2 (fun i => Cert.Fwd.Spec.quantDy (x4 i) (x0 (ix1 5))) (x0 (ix1 0) * x0 (ix1 2)) inb_S3072x3072_S512x3072_2560_0 inb_S3072x512_S512x512_2560_0 _ (fun _ => rfl) none x
  · exact fun x => tile 2048 (by decide) x2 (fun i => Cert.Fwd.Spec.quantDy (x4 i) (x0 (ix1 5))) (x0 (ix1 0) * x0 (ix1 2)) inb_S3072x3072_S512x3072_2048_0 inb_S3072x512_S512x512_2048_0 _ (fun _ => rfl) none x
  · exact fun x => tile 1536 (by decide) x2 (fun i => Cert.Fwd.Spec.quantDy (x4 i) (x0 (ix1 5))) (x0 (ix1 0) * x0 (ix1 2)) inb_S3072x3072_S512x3072_1536_0 inb_S3072x512_S512x512_1536_0 _ (fun _ => rfl) none x
  · exact fun x => tile 1024 (by decide) x2 (fun i => Cert.Fwd.Spec.quantDy (x4 i) (x0 (ix1 5))) (x0 (ix1 0) * x0 (ix1 2)) inb_S3072x3072_S512x3072_1024_0 inb_S3072x512_S512x512_1024_0 _ (fun _ => rfl) none x
  · exact fun x => tile 512 (by decide) x2 (fun i => Cert.Fwd.Spec.quantDy (x4 i) (x0 (ix1 5))) (x0 (ix1 0) * x0 (ix1 2)) inb_S3072x3072_S512x3072_512_0 inb_S3072x512_S512x512_512_0 _ (fun _ => rfl) none x
  · exact fun x => tile 0 (by decide) x2 (fun i => Cert.Fwd.Spec.quantDy (x4 i) (x0 (ix1 5))) (x0 (ix1 0) * x0 (ix1 2)) inb_S3072x3072_S512x3072_0_0 inb_S3072x512_S512x512_0_0 _ (fun _ => rfl) none x

end Cert.FwdDwIdeal.Value

end
-- ==== Proof.FwdKernel.lean ====
module

public import proofs.«01_k».proof.Proof.FwdOutA
public import proofs.«01_k».proof.Proof.FwdOutB
public import proofs.«01_k».proof.Proof.FwdRun

@[expose] public section

noncomputable section

open Idealize.ShloMosaic Idealize.ShloMosaic.TcCoe Idealize.SL.Sem Idealize.ShloMosaic.ValueIdx
open Idealize.ShloMosaic.Pipeline (Dat)
open scoped BigOperators

namespace Cert.FwdDwIdeal.Value

open Cert.FwdDwIdeal Cert.FwdDwIdeal.Gen Cert.Common

variable (m : (ℓ : Loc nD τ sig) → Buf (Elt Ideal) ℓ) (ρ : Dev nD → PrngReg)

/-- The gradient as the call receives it: its two leading axes merged. -/
abbrev grad (c : Dev nD) : (⟨2, ![3072, 8192]⟩ : Shape).Idx → EReal :=
  shapeCast S3072x8192 (m ((c : Thread nD τ).loc main_arg4)) shapeCasts_S2x1536x8192_S3072x8192

theorem V_v0 (c : Dev nD) : (V m c main_v0 : S3072x8192.Idx → EReal) = grad m c := rfl

/-! The blocks of a grid point: the scales and both activation arrays whole, 512 columns of the weight and of the gradient. -/

theorem idx0 : ∀ t : Fin cfg0.N, win0_0.index t 0 = 0 :=
  (by decide +kernel : ∀ t : Fin grid0.N, win0_0.index t 0 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx3 : ∀ t : Fin cfg0.N, win0_3.index t 0 = 0 ∧ win0_3.index t 1 = t.val :=
  (by decide +kernel : ∀ t : Fin grid0.N, win0_3.index t 0 = 0 ∧ win0_3.index t 1 = t.val)
theorem idx4 : ∀ t : Fin cfg0.N, win0_4.index t 0 = 0 ∧ win0_4.index t 1 = t.val :=
  (by decide +kernel : ∀ t : Fin grid0.N, win0_4.index t 0 = 0 ∧ win0_4.index t 1 = t.val)
theorem idx5 : ∀ t : Fin cfg0.N, win0_5.index t 0 = 0 ∧ win0_5.index t 1 = t.val :=
  (by decide +kernel : ∀ t : Fin grid0.N, win0_5.index t 0 = 0 ∧ win0_5.index t 1 = t.val)
theorem idx6 : ∀ t : Fin cfg0.N, win0_6.index t 0 = 0 ∧ win0_6.index t 1 = t.val :=
  (by decide +kernel : ∀ t : Fin grid0.N, win0_6.index t 0 = 0 ∧ win0_6.index t 1 = t.val)
theorem idx7 : ∀ t : Fin cfg0.N, win0_7.index t 0 = 0 ∧ win0_7.index t 1 = t.val :=
  (by decide +kernel : ∀ t : Fin grid0.N, win0_7.index t 0 = 0 ∧ win0_7.index t 1 = t.val)
theorem idx8 : ∀ t : Fin cfg0.N, win0_8.index t 0 = 0 ∧ win0_8.index t 1 = t.val :=
  (by decide +kernel : ∀ t : Fin grid0.N, win0_8.index t 0 = 0 ∧ win0_8.index t 1 = t.val)

theorem lt16 (t : Fin cfg0.N) : t.val < 16 := by have h : cfg0.N = 16 := N_0; have := t.isLt; omega

/-- Column `q` of the block of columns `t`. -/
abbrev col (t : Fin cfg0.N) (q : Fin 512) : Fin 8192 := ⟨t.val * 512 + q.val, by have := lt16 t; omega⟩

theorem blk0 (c : Dev nD) (t : Fin cfg0.N) : (iblk m c 0 t : Vec Ideal S8 .f32) = m ((c : Thread nD τ).loc main_arg0) := by
  refine funext fun (i : S8.Idx) => ?_
  unfold iblk
  rw [View.read_apply, ← V_main_arg0 m c]
  show V m c main_arg0 _ = V m c main_arg0 _
  refine congrArg _ (funext fun a => Fin.ext ?_)
  match a with
  | ⟨0, _⟩ => show win0_0.index t 0 * 8 + 1 * (i 0).val = (i 0).val; rw [idx0]; omega

theorem blk1 (c : Dev nD) (t : Fin cfg0.N) : (iblk m c 1 t : Vec Ideal S3072x3072 .fp8e4m3) = m ((c : Thread nD τ).loc main_arg1) := by
  refine funext fun (i : S3072x3072.Idx) => ?_
  unfold iblk
  rw [View.read_apply, ← V_main_arg1 m c]
  show V m c main_arg1 _ = V m c main_arg1 _
  refine congrArg _ (funext fun a => Fin.ext ?_)
  match a with
  | ⟨0, _⟩ => show win0_1.index t 0 * 3072 + 1 * (i 0).val = (i 0).val; rw [(idx1 t).1]; omega
  | ⟨1, _⟩ => show win0_1.index t 1 * 3072 + 1 * (i 1).val = (i 1).val; rw [(idx1 t).2]; omega

theorem blk2 (c : Dev nD) (t : Fin cfg0.N) : (iblk m c 2 t : Vec Ideal S3072x3072 .fp8e4m3) = m ((c : Thread nD τ).loc main_arg2) := by
  refine funext fun (i : S3072x3072.Idx) => ?_
  unfold iblk
  rw [View.read_apply, ← V_main_arg2 m c]
  show V m c main_arg2 _ = V m c main_arg2 _
  refine congrArg _ (funext fun a => Fin.ext ?_)
  match a with
  | ⟨0, _⟩ => show win0_2.index t 0 * 3072 + 1 * (i 0).val = (i 0).val; rw [(idx2 t).1]; omega
  | ⟨1, _⟩ => show win0_2.index t 1 * 3072 + 1 * (i 1).val = (i 1).val; rw [(idx2 t).2]; omega

theorem blk3 (c : Dev nD) (t : Fin cfg0.N) (r : Fin 3072) (q : Fin 512) :
    (iblk m c 3 t : Vec Ideal S3072x512 .bf16) (ix2 r q) = m ((c : Thread nD τ).loc main_arg3) (ix2 r (col t q)) := by
  unfold iblk
  rw [View.read_apply, ← V_main_arg3 m c]
  show V m c main_arg3 _ = V m c main_arg3 _
  refine congrArg _ (funext fun a => Fin.ext ?_)
  match a with
  | ⟨0, _⟩ => show win0_3.index t 0 * 3072 + 1 * r.val = r.val; rw [(idx3 t).1]; omega
  | ⟨1, _⟩ => show win0_3.index t 1 * 512 + 1 * q.val = t.val * 512 + q.val; rw [(idx3 t).2]; omega

theorem blk4 (c : Dev nD) (t : Fin cfg0.N) (r : Fin 3072) (q : Fin 512) :
    (iblk m c 4 t : Vec Ideal S3072x512 .bf16) (ix2 r q) = grad m c (ix2 r (col t q)) := by
  unfold iblk
  rw [View.read_apply, ← V_v0 m c]
  show V m c main_v0 _ = V m c main_v0 _
  refine congrArg _ (funext fun a => Fin.ext ?_)
  match a with
  | ⟨0, _⟩ => show win0_4.index t 0 * 3072 + 1 * r.val = r.val; rw [(idx4 t).1]; omega
  | ⟨1, _⟩ => show win0_4.index t 1 * 512 + 1 * q.val = t.val * 512 + q.val; rw [(idx4 t).2]; omega

/-! The forward product. -/

/-- What the run leaves in the array of the forward product. -/
abbrev result5 (c : Dev nD) : Buf (Elt Ideal) ((c : Thread nD τ).loc main_v1_0) :=
  Cert.Fwd.Spec.y (m ((c : Thread nD τ).loc main_arg0)) (m ((c : Thread nD τ).loc main_arg1)) (m ((c : Thread nD τ).loc main_arg3))

theorem at5 (c : Dev nD) (t : Fin cfg0.N) :
    (dats m 0 c).flushed 5 t = (cfg0.win 5).cut (grid0.coords t) (Cert.Fwd.Spec.y (iblk m c 0 t) (iblk m c 1 t) (iblk m c 3 t) : S3072x512.Idx → EReal) := by
  by_cases h0 : t.val % 16 = 0
  · rw [flushed5_A m c t h0, out_A_5]
  · rw [flushed5_B m c t h0, out_B_5]

theorem flushed_eq5 (c : Dev nD) (t : Fin cfg0.N) :
    (dats m 0 c).flushed 5 t = ((cfg0.win 5).blk t).view.read (Elt Ideal) (result5 m c) := by
  rw [at5, blk0, blk1]
  refine funext fun (y : S3072x512.Idx) => ?_
  obtain ⟨r, q, rfl⟩ : ∃ r q, y = ix2 r q := ⟨_, _, eq_ix2 y⟩
  rw [View.read_apply]
  have he : ((cfg0.win 5).blk t).view.emb (ix2 r q) = (ix2 r (col t q) : S3072x8192.Idx) := by
    refine funext fun a => Fin.ext ?_
    match a with
    | ⟨0, _⟩ => show win0_5.index t 0 * 3072 + 1 * r.val = r.val; rw [(idx5 t).1]; omega
    | ⟨1, _⟩ => show win0_5.index t 1 * 512 + 1 * q.val = t.val * 512 + q.val; rw [(idx5 t).2]; omega
  show Cert.Fwd.Spec.y (m ((c : Thread nD τ).loc main_arg0)) (m ((c : Thread nD τ).loc main_arg1)) (iblk m c 3 t : Vec Ideal S3072x512 .bf16) (ix2 r q) = result5 m c _
  rw [he]
  exact Cert.Fwd.Spec.y_block _ _ _ _ r q (col t q) fun k => blk3 m c t k q

/-- The sixteen blocks of columns cover it. -/
theorem final5 (c : Dev nD) : (dats m 0 c).arrAt 5 cfg0.N = result5 m c :=
  (dats m 0 c).arrAt_eq_of_cover 5 (result5 m c) (fun t _ => flushed_eq5 m c t) fun (i : S3072x8192.Idx) => by
    have hN : cfg0.N = 16 := N_0
    have h0 : (i 0).val < 3072 := (i 0).isLt
    have h1 : (i 1).val < 8192 := (i 1).isLt
    obtain ⟨t, ht⟩ : ∃ t : Fin cfg0.N, t.val = (i 1).val / 512 := ⟨⟨(i 1).val / 512, by omega⟩, rfl⟩
    refine ⟨t, flush0_5 t, ?_⟩
    show i ∈ ((View.whole main_v1_0).slice (win0_5.rect t)).set
    rw [View.set_slice_whole, Rect.mem_set_unit]
    intro a
    match a with
    | ⟨0, _⟩ => show win0_5.index t 0 * 3072 ≤ (i 0 : Nat) ∧ (i 0 : Nat) < win0_5.index t 0 * 3072 + 3072
                rw [(idx5 t).1]; omega
    | ⟨1, _⟩ => show win0_5.index t 1 * 512 ≤ (i 1 : Nat) ∧ (i 1 : Nat) < win0_5.index t 1 * 512 + 512
                rw [(idx5 t).2, ht]; omega

/-! The weight gradient. -/

/-- What the run leaves in the array of the weight gradient. -/
abbrev result6 (c : Dev nD) : Buf (Elt Ideal) ((c : Thread nD τ).loc main_v1_1) :=
  Cert.Fwd.Spec.dw (m ((c : Thread nD τ).loc main_arg0)) (m ((c : Thread nD τ).loc main_arg2)) (grad m c)

theorem at6 (c : Dev nD) (t : Fin cfg0.N) :
    (dats m 0 c).flushed 6 t = (cfg0.win 6).cut (grid0.coords t) (Cert.Fwd.Spec.dw (iblk m c 0 t) (iblk m c 2 t) (iblk m c 4 t) : S3072x512.Idx → EReal) := by
  by_cases h0 : t.val % 16 = 0
  · rw [flushed6_A m c t h0, out_A_6]
  · rw [flushed6_B m c t h0, out_B_6]

theorem flushed_eq6 (c : Dev nD) (t : Fin cfg0.N) :
    (dats m 0 c).flushed 6 t = ((cfg0.win 6).blk t).view.read (Elt Ideal) (result6 m c) := by
  rw [at6, blk0, blk2]
  refine funext fun (y : S3072x512.Idx) => ?_
  obtain ⟨r, q, rfl⟩ : ∃ r q, y = ix2 r q := ⟨_, _, eq_ix2 y⟩
  rw [View.read_apply]
  have he : ((cfg0.win 6).blk t).view.emb (ix2 r q) = (ix2 r (col t q) : S3072x8192.Idx) := by
    refine funext fun a => Fin.ext ?_
    match a with
    | ⟨0, _⟩ => show win0_6.index t 0 * 3072 + 1 * r.val = r.val; rw [(idx6 t).1]; omega
    | ⟨1, _⟩ => show win0_6.index t 1 * 512 + 1 * q.val = t.val * 512 + q.val; rw [(idx6 t).2]; omega
  show Cert.Fwd.Spec.dw (m ((c : Thread nD τ).loc main_arg0)) (m ((c : Thread nD τ).loc main_arg2)) (iblk m c 4 t : Vec Ideal S3072x512 .bf16) (ix2 r q) = result6 m c _
  rw [he]
  exact Cert.Fwd.Spec.dw_block _ _ _ _ r q (col t q) fun k => blk4 m c t k q

/-- The sixteen blocks of columns cover it. -/
theorem final6 (c : Dev nD) : (dats m 0 c).arrAt 6 cfg0.N = result6 m c :=
  (dats m 0 c).arrAt_eq_of_cover 6 (result6 m c) (fun t _ => flushed_eq6 m c t) fun (i : S3072x8192.Idx) => by
    have hN : cfg0.N = 16 := N_0
    have h0 : (i 0).val < 3072 := (i 0).isLt
    have h1 : (i 1).val < 8192 := (i 1).isLt
    obtain ⟨t, ht⟩ : ∃ t : Fin cfg0.N, t.val = (i 1).val / 512 := ⟨⟨(i 1).val / 512, by omega⟩, rfl⟩
    refine ⟨t, flush0_6 t, ?_⟩
    show i ∈ ((View.whole main_v1_1).slice (win0_6.rect t)).set
    rw [View.set_slice_whole, Rect.mem_set_unit]
    intro a
    match a with
    | ⟨0, _⟩ => show win0_6.index t 0 * 3072 ≤ (i 0 : Nat) ∧ (i 0 : Nat) < win0_6.index t 0 * 3072 + 3072
                rw [(idx6 t).1]; omega
    | ⟨1, _⟩ => show win0_6.index t 1 * 512 ≤ (i 1 : Nat) ∧ (i 1 : Nat) < win0_6.index t 1 * 512 + 512
                rw [(idx6 t).2, ht]; omega

/-! The weight's codes. -/

/-- What the run leaves in the array of the weight's codes. -/
abbrev result7 (c : Dev nD) : Buf (Elt Ideal) ((c : Thread nD τ).loc main_v1_2) :=
  Cert.Fwd.Spec.wCodes (m ((c : Thread nD τ).loc main_arg0)) (m ((c : Thread nD τ).loc main_arg3))

theorem at7 (c : Dev nD) (t : Fin cfg0.N) :
    (dats m 0 c).flushed 7 t = (cfg0.win 7).cut (grid0.coords t) (Cert.Fwd.Spec.wCodes (iblk m c 0 t) (iblk m c 3 t) : S3072x512.Idx → EReal) := by
  by_cases h0 : t.val % 16 = 0
  · rw [flushed7_A m c t h0, out_A_7]
  · rw [flushed7_B m c t h0, out_B_7]

theorem flushed_eq7 (c : Dev nD) (t : Fin cfg0.N) :
    (dats m 0 c).flushed 7 t = ((cfg0.win 7).blk t).view.read (Elt Ideal) (result7 m c) := by
  rw [at7, blk0]
  refine funext fun (y : S3072x512.Idx) => ?_
  obtain ⟨r, q, rfl⟩ : ∃ r q, y = ix2 r q := ⟨_, _, eq_ix2 y⟩
  rw [View.read_apply]
  have he : ((cfg0.win 7).blk t).view.emb (ix2 r q) = (ix2 r (col t q) : S3072x8192.Idx) := by
    refine funext fun a => Fin.ext ?_
    match a with
    | ⟨0, _⟩ => show win0_7.index t 0 * 3072 + 1 * r.val = r.val; rw [(idx7 t).1]; omega
    | ⟨1, _⟩ => show win0_7.index t 1 * 512 + 1 * q.val = t.val * 512 + q.val; rw [(idx7 t).2]; omega
  show Cert.Fwd.Spec.wCodes (m ((c : Thread nD τ).loc main_arg0)) (iblk m c 3 t : Vec Ideal S3072x512 .bf16) (ix2 r q) = result7 m c _
  rw [he]
  exact Cert.Fwd.Spec.wCodes_block _ _ _ r q (col t q) fun k => blk3 m c t k q

/-- The sixteen blocks of columns cover it. -/
theorem final7 (c : Dev nD) : (dats m 0 c).arrAt 7 cfg0.N = result7 m c :=
  (dats m 0 c).arrAt_eq_of_cover 7 (result7 m c) (fun t _ => flushed_eq7 m c t) fun (i : S3072x8192.Idx) => by
    have hN : cfg0.N = 16 := N_0
    have h0 : (i 0).val < 3072 := (i 0).isLt
    have h1 : (i 1).val < 8192 := (i 1).isLt
    obtain ⟨t, ht⟩ : ∃ t : Fin cfg0.N, t.val = (i 1).val / 512 := ⟨⟨(i 1).val / 512, by omega⟩, rfl⟩
    refine ⟨t, flush0_7 t, ?_⟩
    show i ∈ ((View.whole main_v1_2).slice (win0_7.rect t)).set
    rw [View.set_slice_whole, Rect.mem_set_unit]
    intro a
    match a with
    | ⟨0, _⟩ => show win0_7.index t 0 * 3072 ≤ (i 0 : Nat) ∧ (i 0 : Nat) < win0_7.index t 0 * 3072 + 3072
                rw [(idx7 t).1]; omega
    | ⟨1, _⟩ => show win0_7.index t 1 * 512 ≤ (i 1 : Nat) ∧ (i 1 : Nat) < win0_7.index t 1 * 512 + 512
                rw [(idx7 t).2, ht]; omega

/-! The gradient's codes. -/

/-- What the run leaves in the array of the gradient's codes. -/
abbrev result8 (c : Dev nD) : Buf (Elt Ideal) ((c : Thread nD τ).loc main_v1_3) :=
  Cert.Fwd.Spec.dyCodes (m ((c : Thread nD τ).loc main_arg0)) (grad m c)

theorem at8 (c : Dev nD) (t : Fin cfg0.N) :
    (dats m 0 c).flushed 8 t = (cfg0.win 8).cut (grid0.coords t) (Cert.Fwd.Spec.dyCodes (iblk m c 0 t) (iblk m c 4 t) : S3072x512.Idx → EReal) := by
  by_cases h0 : t.val % 16 = 0
  · rw [flushed8_A m c t h0, out_A_8]
  · rw [flushed8_B m c t h0, out_B_8]

theorem flushed_eq8 (c : Dev nD) (t : Fin cfg0.N) :
    (dats m 0 c).flushed 8 t = ((cfg0.win 8).blk t).view.read (Elt Ideal) (result8 m c) := by
  rw [at8, blk0]
  refine funext fun (y : S3072x512.Idx) => ?_
  obtain ⟨r, q, rfl⟩ : ∃ r q, y = ix2 r q := ⟨_, _, eq_ix2 y⟩
  rw [View.read_apply]
  have he : ((cfg0.win 8).blk t).view.emb (ix2 r q) = (ix2 r (col t q) : S3072x8192.Idx) := by
    refine funext fun a => Fin.ext ?_
    match a with
    | ⟨0, _⟩ => show win0_8.index t 0 * 3072 + 1 * r.val = r.val; rw [(idx8 t).1]; omega
    | ⟨1, _⟩ => show win0_8.index t 1 * 512 + 1 * q.val = t.val * 512 + q.val; rw [(idx8 t).2]; omega
  show Cert.Fwd.Spec.dyCodes (m ((c : Thread nD τ).loc main_arg0)) (iblk m c 4 t : Vec Ideal S3072x512 .bf16) (ix2 r q) = result8 m c _
  rw [he]
  exact Cert.Fwd.Spec.dyCodes_block _ _ _ r q (col t q) fun k => blk4 m c t k q

/-- The sixteen blocks of columns cover it. -/
theorem final8 (c : Dev nD) : (dats m 0 c).arrAt 8 cfg0.N = result8 m c :=
  (dats m 0 c).arrAt_eq_of_cover 8 (result8 m c) (fun t _ => flushed_eq8 m c t) fun (i : S3072x8192.Idx) => by
    have hN : cfg0.N = 16 := N_0
    have h0 : (i 0).val < 3072 := (i 0).isLt
    have h1 : (i 1).val < 8192 := (i 1).isLt
    obtain ⟨t, ht⟩ : ∃ t : Fin cfg0.N, t.val = (i 1).val / 512 := ⟨⟨(i 1).val / 512, by omega⟩, rfl⟩
    refine ⟨t, flush0_8 t, ?_⟩
    show i ∈ ((View.whole main_v1_3).slice (win0_8.rect t)).set
    rw [View.set_slice_whole, Rect.mem_set_unit]
    intro a
    match a with
    | ⟨0, _⟩ => show win0_8.index t 0 * 3072 ≤ (i 0 : Nat) ∧ (i 0 : Nat) < win0_8.index t 0 * 3072 + 3072
                rw [(idx8 t).1]; omega
    | ⟨1, _⟩ => show win0_8.index t 1 * 512 ≤ (i 1 : Nat) ∧ (i 1 : Nat) < win0_8.index t 1 * 512 + 512
                rw [(idx8 t).2, ht]; omega

end Cert.FwdDwIdeal.Value

end
-- ==== Proof.FwdKernelMax.lean ====
module

public import proofs.«01_k».proof.Proof.FwdKernel
public import proofs.«01_k».proof.Proof.FwdRun

@[expose] public section

noncomputable section

open Idealize.ShloMosaic Idealize.ShloMosaic.TcCoe Idealize.SL.Sem Idealize.ShloMosaic.ValueIdx
open Idealize.ShloMosaic.Pipeline (Dat)
open scoped BigOperators

namespace Cert.FwdDwIdeal.Value

open Cert.FwdDwIdeal Cert.FwdDwIdeal.Gen Cert.Common

variable (m : (ℓ : Loc nD τ sig) → Buf (Elt Ideal) ℓ) (ρ : Dev nD → PrngReg)

/-! ## The column maxima: a running maximum over the sixteen points, from zero -/

/-- The largest magnitude in column `q` of a block. -/
def blockMax (v : S3072x512.Idx → EReal) (q : Fin 512) : EReal := ⨆ r : Fin 3072, max (v (ix2 r q)) (-v (ix2 r q))

theorem pay7_apply (v : Vec Ideal S3072x512 .bf16) (p : Vec Ideal S1x512 .f32) (i : S1x512.Idx) :
    k0_pay7 v p i = (max (p i : EReal) (blockMax v (i 1)) : EReal) := by
  unfold k0_pay7
  simp only [shapeCast_self, maximumf_apply]
  exact congrArg (max (p i : EReal)) (colmax_apply _ _ _ _ _ i)

theorem pay8_apply (v : Vec Ideal S3072x512 .bf16) (p : Vec Ideal S1x512 .f32) (i : S1x512.Idx) :
    k0_pay8 v p i = (max (p i : EReal) (blockMax v (i 1)) : EReal) := by
  unfold k0_pay8 k0_pay6
  simp only [shapeCast_self, maximumf_apply]
  exact congrArg (max (p i : EReal)) (colmax_apply _ _ _ _ _ i)

theorem pay4_apply (i : S1x512.Idx) : (k0_pay4 (F := Ideal) i : EReal) = 0 := by
  unfold k0_pay4
  show Ideal.ofBits .f32 0x00000000#32 = 0
  simp

theorem pay5_apply (i : S1x512.Idx) : (k0_pay5 (F := Ideal) i : EReal) = 0 := by
  unfold k0_pay5
  show Ideal.ofBits .f32 0x00000000#32 = 0
  simp

/-- The weight, as the call receives it. -/
abbrev weight (c : Dev nD) : (⟨2, ![3072, 8192]⟩ : Shape).Idx → EReal := m ((c : Thread nD τ).loc main_arg3)

/-- A bound on the largest magnitude of the sixteen blocks' columns. -/
theorem colMax_le (w : (⟨2, ![3072, 8192]⟩ : Shape).Idx → EReal) (i : S1x512.Idx) (z : EReal) :
    Cert.Fwd.Spec.colMax w i ≤ z ↔ ∀ (t : Fin cfg0.N) (r : Fin 3072), max (w (ix2 r (col t (i 1)))) (-w (ix2 r (col t (i 1)))) ≤ z := by
  unfold Cert.Fwd.Spec.colMax
  simp only [iSup_le_iff]
  have hN : cfg0.N = 16 := N_0
  constructor
  · intro h t r; exact h ⟨t.val, lt16 t⟩ r
  · intro h b r; exact h ⟨b.val, by have := b.isLt; omega⟩ r

/-- The weight's running maximum after point `n`: bounded by what bounds zero and every block so far. -/
theorem outs9 (c : Dev nD) (i : S1x512.Idx) (z : EReal) : ∀ (n : ℕ) (h : n < cfg0.N),
    ((outsAt0 m c n h).2.2.2.2.1 i : EReal) ≤ z ↔ 0 ≤ z ∧ ∀ t : Fin cfg0.N, t.val ≤ n → ∀ r : Fin 3072,
      max ((weight m c) (ix2 r (col t (i 1))) : EReal) (-((weight m c) (ix2 r (col t (i 1))) : EReal)) ≤ z := by
  have hb : ∀ t : Fin cfg0.N, blockMax (iblk m c 3 t : Vec Ideal S3072x512 .bf16) (i 1) ≤ z ↔ ∀ r : Fin 3072,
      max ((weight m c) (ix2 r (col t (i 1))) : EReal) (-((weight m c) (ix2 r (col t (i 1))) : EReal)) ≤ z := fun t => by
    unfold blockMax
    rw [iSup_le_iff]
    exact forall_congr' fun r => by
      rw [show (iblk m c 3 t : Vec Ideal S3072x512 .bf16) (ix2 r (i 1)) = (weight m c) (ix2 r (col t (i 1))) from blk3 m c t r (i 1)]
  intro n
  induction n with
  | zero =>
    intro h
    rw [show outsAt0 m c 0 h = _ from outsAt0_A m c ⟨0, h⟩ rfl]
    dsimp only
    rw [out_A_9, pay7_apply, pay4_apply, max_le_iff, hb]
    refine and_congr_right fun _ => ⟨fun hz t ht r => ?_, fun hz r => hz ⟨0, h⟩ (Nat.le_refl _) r⟩
    obtain rfl : t = ⟨0, h⟩ := Fin.ext (Nat.le_zero.mp ht)
    exact hz r
  | succ n ih =>
    intro h
    have hN : cfg0.N = 16 := N_0
    have hB : ¬(⟨n + 1, h⟩ : Fin cfg0.N).val % 16 = 0 := by dsimp only; omega
    rw [show outsAt0 m c (n + 1) h = _ from outsAt0_B m c ⟨n + 1, h⟩ hB]
    dsimp only
    rw [out_B_9, pay7_apply, max_le_iff, hb]
    refine Iff.trans (and_congr_left' (ih (Nat.lt_of_succ_lt h))) ?_
    rw [and_assoc]
    refine and_congr_right fun _ => ⟨fun hz t ht r => ?_, fun hz => ⟨fun t ht r => hz t (Nat.le_succ_of_le ht) r, fun r => hz ⟨n + 1, h⟩ (Nat.le_refl _) r⟩⟩
    rcases Nat.lt_or_ge t.val (n + 1) with h' | h'
    · exact hz.1 t (Nat.lt_succ_iff.mp h') r
    · obtain rfl : t = ⟨n + 1, h⟩ := Fin.ext (Nat.le_antisymm ht h')
      exact hz.2 r

/-- What the run leaves in the array of the weight's column maxima. -/
abbrev result9 (c : Dev nD) : Buf (Elt Ideal) ((c : Thread nD τ).loc main_v1_4) := Cert.Fwd.Spec.colMax (weight m c)

/-- After the last point the running maximum is the maximum over all blocks: zero is below every magnitude. -/
theorem last9 (c : Dev nD) (h : 15 < cfg0.N) : ((outsAt0 m c 15 h).2.2.2.2.1 : S1x512.Idx → EReal) = result9 m c := by
  refine funext fun i => eq_of_forall_ge_iff fun z => ?_
  refine (outs9 m c i z 15 h).trans (Iff.trans ⟨fun hz t r => hz.2 t (by have := lt16 t; omega) r, fun hz => ⟨?_, fun t _ r => hz t r⟩⟩
    (colMax_le (weight m c) i z).symm)
  exact (abs_nonneg _).trans (hz ⟨0, by omega⟩ ⟨0, by omega⟩)

/-- The last point writes it back. -/
theorem flushed_eq9 (c : Dev nD) (t : Fin cfg0.N) (hf : (cfg0.win 9).flush t = true) :
    (dats m 0 c).flushed 9 t = ((cfg0.win 9).blk t).view.read (Elt Ideal) (result9 m c) := by
  have hN : cfg0.N = 16 := N_0
  have h15 : t.val = 15 := by have := (flush0_9 t).mp hf; have := lt16 t; omega
  have hl : 15 < cfg0.N := by omega
  obtain rfl : t = ⟨15, hl⟩ := Fin.ext h15
  have hz' : (fun a => win0_9.index (⟨15, hl⟩ : Fin cfg0.N) a * main_v1_4.ty.shape.size a) = fun _ => 0 := funext fun a => by
    match a with
    | ⟨0, _⟩ => exact (congrArg (· * _) (idx9 ⟨15, hl⟩).1).trans (Nat.zero_mul _)
    | ⟨1, _⟩ => exact (congrArg (· * _) (idx9 ⟨15, hl⟩).2).trans (Nat.zero_mul _)
  rw [flushed9, last9]
  exact (Memref.read_access_unit_zero (Elt Ideal) main_v1_4 hz' (fun a => by rw [congrFun hz' a]; simp) (result9 m c)).symm

theorem final9 (c : Dev nD) : (dats m 0 c).arrAt 9 cfg0.N = result9 m c :=
  (dats m 0 c).arrAt_eq_of_cover 9 (result9 m c) (flushed_eq9 m c) fun (i : S1x512.Idx) => by
    have hN : cfg0.N = 16 := N_0
    have h0 : (i 0).val < 1 := (i 0).isLt
    have h1 : (i 1).val < 512 := (i 1).isLt
    obtain ⟨t, ht⟩ : ∃ t : Fin cfg0.N, t.val = 15 := ⟨⟨15, by omega⟩, rfl⟩
    refine ⟨t, (flush0_9 t).mpr (by omega), ?_⟩
    show i ∈ ((View.whole main_v1_4).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [(idx9 t).1]; omega
    | ⟨1, _⟩ => show win0_9.index t 1 * 512 ≤ (i 1 : Nat) ∧ (i 1 : Nat) < win0_9.index t 1 * 512 + 512
                rw [(idx9 t).2]; omega

/-- The gradient's running maximum after point `n`: bounded by what bounds zero and every block so far. -/
theorem outs10 (c : Dev nD) (i : S1x512.Idx) (z : EReal) : ∀ (n : ℕ) (h : n < cfg0.N),
    ((outsAt0 m c n h).2.2.2.2.2 i : EReal) ≤ z ↔ 0 ≤ z ∧ ∀ t : Fin cfg0.N, t.val ≤ n → ∀ r : Fin 3072,
      max ((grad m c) (ix2 r (col t (i 1))) : EReal) (-((grad m c) (ix2 r (col t (i 1))) : EReal)) ≤ z := by
  have hb : ∀ t : Fin cfg0.N, blockMax (iblk m c 4 t : Vec Ideal S3072x512 .bf16) (i 1) ≤ z ↔ ∀ r : Fin 3072,
      max ((grad m c) (ix2 r (col t (i 1))) : EReal) (-((grad m c) (ix2 r (col t (i 1))) : EReal)) ≤ z := fun t => by
    unfold blockMax
    rw [iSup_le_iff]
    exact forall_congr' fun r => by
      rw [show (iblk m c 4 t : Vec Ideal S3072x512 .bf16) (ix2 r (i 1)) = (grad m c) (ix2 r (col t (i 1))) from blk4 m c t r (i 1)]
  intro n
  induction n with
  | zero =>
    intro h
    rw [show outsAt0 m c 0 h = _ from outsAt0_A m c ⟨0, h⟩ rfl]
    dsimp only
    rw [out_A_10, pay8_apply, pay5_apply, max_le_iff, hb]
    refine and_congr_right fun _ => ⟨fun hz t ht r => ?_, fun hz r => hz ⟨0, h⟩ (Nat.le_refl _) r⟩
    obtain rfl : t = ⟨0, h⟩ := Fin.ext (Nat.le_zero.mp ht)
    exact hz r
  | succ n ih =>
    intro h
    have hN : cfg0.N = 16 := N_0
    have hB : ¬(⟨n + 1, h⟩ : Fin cfg0.N).val % 16 = 0 := by dsimp only; omega
    rw [show outsAt0 m c (n + 1) h = _ from outsAt0_B m c ⟨n + 1, h⟩ hB]
    dsimp only
    rw [out_B_10, pay8_apply, max_le_iff, hb]
    refine Iff.trans (and_congr_left' (ih (Nat.lt_of_succ_lt h))) ?_
    rw [and_assoc]
    refine and_congr_right fun _ => ⟨fun hz t ht r => ?_, fun hz => ⟨fun t ht r => hz t (Nat.le_succ_of_le ht) r, fun r => hz ⟨n + 1, h⟩ (Nat.le_refl _) r⟩⟩
    rcases Nat.lt_or_ge t.val (n + 1) with h' | h'
    · exact hz.1 t (Nat.lt_succ_iff.mp h') r
    · obtain rfl : t = ⟨n + 1, h⟩ := Fin.ext (Nat.le_antisymm ht h')
      exact hz.2 r

/-- What the run leaves in the array of the gradient's column maxima. -/
abbrev result10 (c : Dev nD) : Buf (Elt Ideal) ((c : Thread nD τ).loc main_v1_5) := Cert.Fwd.Spec.colMax (grad m c)

/-- After the last point the running maximum is the maximum over all blocks: zero is below every magnitude. -/
theorem last10 (c : Dev nD) (h : 15 < cfg0.N) : ((outsAt0 m c 15 h).2.2.2.2.2 : S1x512.Idx → EReal) = result10 m c := by
  refine funext fun i => eq_of_forall_ge_iff fun z => ?_
  refine (outs10 m c i z 15 h).trans (Iff.trans ⟨fun hz t r => hz.2 t (by have := lt16 t; omega) r, fun hz => ⟨?_, fun t _ r => hz t r⟩⟩
    (colMax_le (grad m c) i z).symm)
  exact (abs_nonneg _).trans (hz ⟨0, by omega⟩ ⟨0, by omega⟩)

/-- The last point writes it back. -/
theorem flushed_eq10 (c : Dev nD) (t : Fin cfg0.N) (hf : (cfg0.win 10).flush t = true) :
    (dats m 0 c).flushed 10 t = ((cfg0.win 10).blk t).view.read (Elt Ideal) (result10 m c) := by
  have hN : cfg0.N = 16 := N_0
  have h15 : t.val = 15 := by have := (flush0_10 t).mp hf; have := lt16 t; omega
  have hl : 15 < cfg0.N := by omega
  obtain rfl : t = ⟨15, hl⟩ := Fin.ext h15
  have hz' : (fun a => win0_10.index (⟨15, hl⟩ : Fin cfg0.N) a * main_v1_5.ty.shape.size a) = fun _ => 0 := funext fun a => by
    match a with
    | ⟨0, _⟩ => exact (congrArg (· * _) (idx10 ⟨15, hl⟩).1).trans (Nat.zero_mul _)
    | ⟨1, _⟩ => exact (congrArg (· * _) (idx10 ⟨15, hl⟩).2).trans (Nat.zero_mul _)
  rw [flushed10, last10]
  exact (Memref.read_access_unit_zero (Elt Ideal) main_v1_5 hz' (fun a => by rw [congrFun hz' a]; simp) (result10 m c)).symm

theorem final10 (c : Dev nD) : (dats m 0 c).arrAt 10 cfg0.N = result10 m c :=
  (dats m 0 c).arrAt_eq_of_cover 10 (result10 m c) (flushed_eq10 m c) fun (i : S1x512.Idx) => by
    have hN : cfg0.N = 16 := N_0
    have h0 : (i 0).val < 1 := (i 0).isLt
    have h1 : (i 1).val < 512 := (i 1).isLt
    obtain ⟨t, ht⟩ : ∃ t : Fin cfg0.N, t.val = 15 := ⟨⟨15, by omega⟩, rfl⟩
    refine ⟨t, (flush0_10 t).mpr (by omega), ?_⟩
    show i ∈ ((View.whole main_v1_5).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1
                rw [(idx10 t).1]; omega
    | ⟨1, _⟩ => show win0_10.index t 1 * 512 ≤ (i 1 : Nat) ∧ (i 1 : Nat) < win0_10.index t 1 * 512 + 512
                rw [(idx10 t).2]; omega

end Cert.FwdDwIdeal.Value

end
-- ==== Proof.FwdRefRun.lean ====
module

public import proofs.«01_k».proof.Proof.Gen.FwdDwRefIdeal.Frame
public import Idealize.ShloMosaic.Lib.Pipeline.Value
public import Idealize.ShloMosaic.Lib.Claim

/-!
The run of the reference of `fwd_dw`, each result after it named: what each grid point writes back, block by block, and what the host
lines after the call leave.
-/

@[expose] public section

noncomputable section

namespace Cert.FwdDwRefIdeal.Value

open Cert.FwdDwRefIdeal Cert.FwdDwRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t)) := by
  simp only [flushed5, outsAt0]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S3072x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- What point `t` writes back to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t)) := by
  simp only [flushed6, outsAt0]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S3072x8192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- What point `t` writes back to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — the kernel's one case, `Gen.outsAt0` by definition. -/
theorem flushed7_A (c : Dev nD) (t : Fin cfg0.N) :
    (dats m 0 c).flushed 7 t = (cfg0.win 7).cut (grid0.coords t) (out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t)) := by
  simp only [flushed7, outsAt0]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S3072x8192.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- What point `t` writes back to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t).2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t)) := by
  simp only [flushed8, outsAt0]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S3072x8192.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- What point `t` writes back to output window 9's array: the run's contents for that window after the body (`Gen.outsAt0`: its component 4), read through the window's block. -/
theorem flushed9 (c : Dev nD) (t : Fin cfg0.N) :
    (dats m 0 c).flushed 9 t = (cfg0.win 9).cut (grid0.coords t) ((outsAt0 m c t).2.2.2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — the kernel's one case, `Gen.outsAt0` by definition. -/
theorem flushed9_A (c : Dev nD) (t : Fin cfg0.N) :
    (dats m 0 c).flushed 9 t = (cfg0.win 9).cut (grid0.coords t) (out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t)) := by
  simp only [flushed9, outsAt0]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S1x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- What point `t` writes back to output window 10's array: the run's contents for that window after the body (`Gen.outsAt0`: its component 5), read through the window's block. -/
theorem flushed10 (c : Dev nD) (t : Fin cfg0.N) :
    (dats m 0 c).flushed 10 t = (cfg0.win 10).cut (grid0.coords t) ((outsAt0 m c t).2.2.2.2.2) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — the kernel's one case, `Gen.outsAt0` by definition. -/
theorem flushed10_A (c : Dev nD) (t : Fin cfg0.N) :
    (dats m 0 c).flushed 10 t = (cfg0.win 10).cut (grid0.coords t) (out0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t)) := by
  simp only [flushed10, outsAt0]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1x512.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 5's array is `(dats m 0 c).arrAt 5 N`. -/
theorem post5 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_4) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v1_5) = (dats m 0 c).arrAt 10 cfg0.N :=
  (h c).1 10

/-- The new history, as the host lines after the call leave it. -/
abbrev tail (c : Dev nD) : Buf (Elt F) ((c : Thread nD τ).loc main_v15) := Pipeline.afterTail₀ cfgs (dats m) 0 (V0 m) [hostOps1] c main_v15

theorem post_tail (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_v15) = tail m c :=
  (h c).2 main_v15 (Pipeline.mem_restRefs_of main_v15 (by decide) (by decide))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_v1_4) = (dats m 0 c).arrAt 9 cfg0.N
      ∧ r.2.mem ((c : Thread nD τ).loc main_v1_5) = (dats m 0 c).arrAt 10 cfg0.N
      ∧ r.2.mem ((c : Thread nD τ).loc main_v15) = tail m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h.1 c, post6 m r h.1 c, post7 m r h.1 c, post8 m r h.1 c, post9 m r h.1 c, post10 m r h.1 c,
      post_tail m r h.1 c, h.2 c⟩)
    (θ_run_and (run_main m ρ) (unchanged m ρ))

end Cert.FwdDwRefIdeal.Value

end
-- ==== Proof.FwdReference.lean ====
module

public import proofs.«01_k».proof.Proof.Spec
public import proofs.«01_k».proof.Proof.FwdRefRun

@[expose] public section

noncomputable section

open Idealize.ShloMosaic Idealize.ShloMosaic.TcCoe Idealize.SL.Sem Idealize.ShloMosaic.ValueIdx
open Idealize.ShloMosaic.Pipeline (Dat)
open scoped BigOperators

namespace Cert.FwdDwRefIdeal.Value

open Cert.FwdDwRefIdeal Cert.FwdDwRefIdeal.Gen Cert.Common

/-- A product of the whole arrays, scaled by `s`, at a row and a column. -/
theorem prod {φ₁ φ₂ : FTy} (h : FVec Ideal S3072x3072 φ₁) (v : FVec Ideal S3072x8192 φ₂) (s : EReal) (prec : Option ContractPrecision)
    (i : S3072x8192.Idx) :
    FloatOps.matmul (DotDims.plain 3072 3072 8192) prec h v (constant S3072x8192 .f32 0x00000000#32) i * s
      = (fun i : S3072x8192.Idx => (∑ k : Fin 3072, h (ix2 (i 0) k) * v (ix2 k (i 1))) * s) i := by
  obtain ⟨a, b, rfl⟩ : ∃ a b, i = ix2 a b := ⟨_, _, eq_ix2 i⟩
  rw [matmul_plain_zero]

theorem pay6 (v : Vec Ideal S3072x8192 .bf16) (s : Elt Ideal .f32) :
    (k0_pay6 v s : S3072x8192.Idx → EReal) = fun i => Cert.Fwd.Spec.quantW (v i) s := rfl

theorem pay7 (v : Vec Ideal S3072x8192 .bf16) (s : Elt Ideal .f32) :
    (k0_pay7 v s : S3072x8192.Idx → EReal) = fun i => Cert.Fwd.Spec.quantDy (v i) s := by
  unfold k0_pay7 k0_pay5
  simp only [shapeCast_self]
  rfl

/-- The maximum over the 49152 rows of the row-major `[49152,512]` reading is the maximum over the rows and the sixteen blocks of columns. -/
theorem rows_max (v : FVec Ideal S3072x8192 .f32) (i : S1x512.Idx) :
    (shapeCast S1x512 (multiReduction .maximumf [0] S512 (shapeCast S49152x512 (absf v) shapeCasts_S3072x8192_S49152x512) 0xFF800000#32
      reduces_S49152x512_S512 (.inl rfl) rfl) shapeCasts_S512_S1x512 i : EReal) = Cert.Fwd.Spec.colMax v i := by
  refine (colmax_apply (M := 49152) _ _ _ _ _ i).trans ?_
  have hq : (i 1).val < 512 := (i 1).isLt
  have hc : ∀ (k : Fin 49152) (b : Fin 16) (r : Fin 3072), k.val = r.val * 16 + b.val →
      (shapeCast S49152x512 (absf v) shapeCasts_S3072x8192_S49152x512 (ix2 k (i 1)) : EReal)
        = max (v (ix2 r ⟨b.val * 512 + (i 1).val, by omega⟩)) (-v (ix2 r ⟨b.val * 512 + (i 1).val, by omega⟩)) := fun k b r hk => by
    refine (shapeCast_apply (absf v) shapeCasts_S3072x8192_S49152x512 (ix2 k (i 1)) (ix2 r ⟨b.val * 512 + (i 1).val, by omega⟩) ?_)
    rw [Shape.rowMajor_val_two, Shape.rowMajor_val_two]
    show r.val * 8192 + (b.val * 512 + (i 1).val) = k.val * 512 + (i 1).val
    omega
  unfold Cert.Fwd.Spec.colMax
  refine eq_of_forall_ge_iff fun z => ?_
  simp only [iSup_le_iff]
  constructor
  · intro h b r
    exact (le_of_eq (hc ⟨r.val * 16 + b.val, by omega⟩ b r rfl).symm).trans (h _)
  · intro h k
    exact (le_of_eq (hc k ⟨k.val % 16, by omega⟩ ⟨k.val / 16, by omega⟩ (by dsimp only; omega))).trans (h _ _)

/-! What the body leaves in each result. -/

theorem out_A_5 (c : Dev nD) (arg0 : Memref sig .tc .smem S8 .f32) (harg0 : arg0.IsWhole) (arg1 : Memref sig .tc .vmem S3072x3072 .fp8e4m3) (harg1 : arg1.IsWhole) (arg2 : Memref sig .tc .vmem S3072x3072 .fp8e4m3) (harg2 : arg2.IsWhole) (arg3 : Memref sig .tc .vmem S3072x8192 .bf16) (harg3 : arg3.IsWhole) (arg4 : Memref sig .tc .vmem S3072x8192 .bf16) (harg4 : arg4.IsWhole) (arg5 : Memref sig .tc .vmem S3072x8192 .bf16) (harg5 : arg5.IsWhole) (arg6 : Memref sig .tc .vmem S3072x8192 .f32) (harg6 : arg6.IsWhole) (arg7 : Memref sig .tc .vmem S3072x8192 .fp8e4m3) (harg7 : arg7.IsWhole) (arg8 : Memref sig .tc .vmem S3072x8192 .fp8e5m2) (harg8 : arg8.IsWhole) (arg9 : Memref sig .tc .vmem S1x512 .f32) (harg9 : arg9.IsWhole) (arg10 : Memref sig .tc .vmem S1x512 .f32) (harg10 : arg10.IsWhole)
    (x0 : Vec Ideal S8 .f32) (x1 : Vec Ideal S3072x3072 .fp8e4m3) (x2 : Vec Ideal S3072x3072 .fp8e4m3) (x3 : Vec Ideal S3072x8192 .bf16) (x4 : Vec Ideal S3072x8192 .bf16) :
    out0_A_5 c arg0 harg0 arg1 harg1 arg2 harg2 arg3 harg3 arg4 harg4 arg5 harg5 arg6 harg6 arg7 harg7 arg8 harg8 arg9 harg9 arg10 harg10 x0 x1 x2 x3 x4 = Cert.Fwd.Spec.y x0 x1 x3 := by
  unfold out0_A_5
  rw [View.read_writes_eq_canon _ _ _ (cover0_A_5 c arg0 harg0 arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S3072x8192) hz, View.ld_unit_zero (S := S3072x3072) hz, k0_pay8, pay6, ld_scalar x0 4 (by decide), ld_scalar x0 0 (by decide), ld_scalar x0 1 (by decide)]
  exact funext fun i => prod x1 (fun i => Cert.Fwd.Spec.quantW (x3 i) (x0 (ix1 4))) (x0 (ix1 0) * x0 (ix1 1)) none i

theorem out_A_6 (c : Dev nD) (arg0 : Memref sig .tc .smem S8 .f32) (harg0 : arg0.IsWhole) (arg1 : Memref sig .tc .vmem S3072x3072 .fp8e4m3) (harg1 : arg1.IsWhole) (arg2 : Memref sig .tc .vmem S3072x3072 .fp8e4m3) (harg2 : arg2.IsWhole) (arg3 : Memref sig .tc .vmem S3072x8192 .bf16) (harg3 : arg3.IsWhole) (arg4 : Memref sig .tc .vmem S3072x8192 .bf16) (harg4 : arg4.IsWhole) (arg5 : Memref sig .tc .vmem S3072x8192 .bf16) (harg5 : arg5.IsWhole) (arg6 : Memref sig .tc .vmem S3072x8192 .f32) (harg6 : arg6.IsWhole) (arg7 : Memref sig .tc .vmem S3072x8192 .fp8e4m3) (harg7 : arg7.IsWhole) (arg8 : Memref sig .tc .vmem S3072x8192 .fp8e5m2) (harg8 : arg8.IsWhole) (arg9 : Memref sig .tc .vmem S1x512 .f32) (harg9 : arg9.IsWhole) (arg10 : Memref sig .tc .vmem S1x512 .f32) (harg10 : arg10.IsWhole)
    (x0 : Vec Ideal S8 .f32) (x1 : Vec Ideal S3072x3072 .fp8e4m3) (x2 : Vec Ideal S3072x3072 .fp8e4m3) (x3 : Vec Ideal S3072x8192 .bf16) (x4 : Vec Ideal S3072x8192 .bf16) :
    out0_A_6 c arg0 harg0 arg1 harg1 arg2 harg2 arg3 harg3 arg4 harg4 arg5 harg5 arg6 harg6 arg7 harg7 arg8 harg8 arg9 harg9 arg10 harg10 x0 x1 x2 x3 x4 = Cert.Fwd.Spec.dw x0 x2 x4 := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S3072x8192) hz, View.ld_unit_zero (S := S3072x3072) hz, k0_pay1, pay7, ld_scalar x0 5 (by decide), ld_scalar x0 0 (by decide), ld_scalar x0 2 (by decide), shapeCast_self]
  exact funext fun i => prod x2 (fun i => Cert.Fwd.Spec.quantDy (x4 i) (x0 (ix1 5))) (x0 (ix1 0) * x0 (ix1 2)) none i

theorem out_A_7 (c : Dev nD) (arg0 : Memref sig .tc .smem S8 .f32) (harg0 : arg0.IsWhole) (arg1 : Memref sig .tc .vmem S3072x3072 .fp8e4m3) (harg1 : arg1.IsWhole) (arg2 : Memref sig .tc .vmem S3072x3072 .fp8e4m3) (harg2 : arg2.IsWhole) (arg3 : Memref sig .tc .vmem S3072x8192 .bf16) (harg3 : arg3.IsWhole) (arg4 : Memref sig .tc .vmem S3072x8192 .bf16) (harg4 : arg4.IsWhole) (arg5 : Memref sig .tc .vmem S3072x8192 .bf16) (harg5 : arg5.IsWhole) (arg6 : Memref sig .tc .vmem S3072x8192 .f32) (harg6 : arg6.IsWhole) (arg7 : Memref sig .tc .vmem S3072x8192 .fp8e4m3) (harg7 : arg7.IsWhole) (arg8 : Memref sig .tc .vmem S3072x8192 .fp8e5m2) (harg8 : arg8.IsWhole) (arg9 : Memref sig .tc .vmem S1x512 .f32) (harg9 : arg9.IsWhole) (arg10 : Memref sig .tc .vmem S1x512 .f32) (harg10 : arg10.IsWhole)
    (x0 : Vec Ideal S8 .f32) (x1 : Vec Ideal S3072x3072 .fp8e4m3) (x2 : Vec Ideal S3072x3072 .fp8e4m3) (x3 : Vec Ideal S3072x8192 .bf16) (x4 : Vec Ideal S3072x8192 .bf16) :
    out0_A_7 c arg0 harg0 arg1 harg1 arg2 harg2 arg3 harg3 arg4 harg4 arg5 harg5 arg6 harg6 arg7 harg7 arg8 harg8 arg9 harg9 arg10 harg10 x0 x1 x2 x3 x4 = Cert.Fwd.Spec.wCodes x0 x3 := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S3072x8192) hz, View.ld_unit_zero (S := S3072x3072) hz, pay6, ld_scalar x0 4 (by decide)]
  rfl

theorem out_A_8 (c : Dev nD) (arg0 : Memref sig .tc .smem S8 .f32) (harg0 : arg0.IsWhole) (arg1 : Memref sig .tc .vmem S3072x3072 .fp8e4m3) (harg1 : arg1.IsWhole) (arg2 : Memref sig .tc .vmem S3072x3072 .fp8e4m3) (harg2 : arg2.IsWhole) (arg3 : Memref sig .tc .vmem S3072x8192 .bf16) (harg3 : arg3.IsWhole) (arg4 : Memref sig .tc .vmem S3072x8192 .bf16) (harg4 : arg4.IsWhole) (arg5 : Memref sig .tc .vmem S3072x8192 .bf16) (harg5 : arg5.IsWhole) (arg6 : Memref sig .tc .vmem S3072x8192 .f32) (harg6 : arg6.IsWhole) (arg7 : Memref sig .tc .vmem S3072x8192 .fp8e4m3) (harg7 : arg7.IsWhole) (arg8 : Memref sig .tc .vmem S3072x8192 .fp8e5m2) (harg8 : arg8.IsWhole) (arg9 : Memref sig .tc .vmem S1x512 .f32) (harg9 : arg9.IsWhole) (arg10 : Memref sig .tc .vmem S1x512 .f32) (harg10 : arg10.IsWhole)
    (x0 : Vec Ideal S8 .f32) (x1 : Vec Ideal S3072x3072 .fp8e4m3) (x2 : Vec Ideal S3072x3072 .fp8e4m3) (x3 : Vec Ideal S3072x8192 .bf16) (x4 : Vec Ideal S3072x8192 .bf16) :
    out0_A_8 c arg0 harg0 arg1 harg1 arg2 harg2 arg3 harg3 arg4 harg4 arg5 harg5 arg6 harg6 arg7 harg7 arg8 harg8 arg9 harg9 arg10 harg10 x0 x1 x2 x3 x4 = Cert.Fwd.Spec.dyCodes x0 x4 := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S3072x8192) hz, View.ld_unit_zero (S := S3072x3072) hz, pay7, ld_scalar x0 5 (by decide)]
  rfl

theorem out_A_9 (c : Dev nD) (arg0 : Memref sig .tc .smem S8 .f32) (harg0 : arg0.IsWhole) (arg1 : Memref sig .tc .vmem S3072x3072 .fp8e4m3) (harg1 : arg1.IsWhole) (arg2 : Memref sig .tc .vmem S3072x3072 .fp8e4m3) (harg2 : arg2.IsWhole) (arg3 : Memref sig .tc .vmem S3072x8192 .bf16) (harg3 : arg3.IsWhole) (arg4 : Memref sig .tc .vmem S3072x8192 .bf16) (harg4 : arg4.IsWhole) (arg5 : Memref sig .tc .vmem S3072x8192 .bf16) (harg5 : arg5.IsWhole) (arg6 : Memref sig .tc .vmem S3072x8192 .f32) (harg6 : arg6.IsWhole) (arg7 : Memref sig .tc .vmem S3072x8192 .fp8e4m3) (harg7 : arg7.IsWhole) (arg8 : Memref sig .tc .vmem S3072x8192 .fp8e5m2) (harg8 : arg8.IsWhole) (arg9 : Memref sig .tc .vmem S1x512 .f32) (harg9 : arg9.IsWhole) (arg10 : Memref sig .tc .vmem S1x512 .f32) (harg10 : arg10.IsWhole)
    (x0 : Vec Ideal S8 .f32) (x1 : Vec Ideal S3072x3072 .fp8e4m3) (x2 : Vec Ideal S3072x3072 .fp8e4m3) (x3 : Vec Ideal S3072x8192 .bf16) (x4 : Vec Ideal S3072x8192 .bf16) :
    out0_A_9 c arg0 harg0 arg1 harg1 arg2 harg2 arg3 harg3 arg4 harg4 arg5 harg5 arg6 harg6 arg7 harg7 arg8 harg8 arg9 harg9 arg10 harg10 x0 x1 x2 x3 x4 = Cert.Fwd.Spec.colMax x3 := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S3072x8192) hz, View.ld_unit_zero (S := S3072x3072) hz, k0_pay2, k0_pay4]
  exact funext fun i => rows_max x3 i

theorem out_A_10 (c : Dev nD) (arg0 : Memref sig .tc .smem S8 .f32) (harg0 : arg0.IsWhole) (arg1 : Memref sig .tc .vmem S3072x3072 .fp8e4m3) (harg1 : arg1.IsWhole) (arg2 : Memref sig .tc .vmem S3072x3072 .fp8e4m3) (harg2 : arg2.IsWhole) (arg3 : Memref sig .tc .vmem S3072x8192 .bf16) (harg3 : arg3.IsWhole) (arg4 : Memref sig .tc .vmem S3072x8192 .bf16) (harg4 : arg4.IsWhole) (arg5 : Memref sig .tc .vmem S3072x8192 .bf16) (harg5 : arg5.IsWhole) (arg6 : Memref sig .tc .vmem S3072x8192 .f32) (harg6 : arg6.IsWhole) (arg7 : Memref sig .tc .vmem S3072x8192 .fp8e4m3) (harg7 : arg7.IsWhole) (arg8 : Memref sig .tc .vmem S3072x8192 .fp8e5m2) (harg8 : arg8.IsWhole) (arg9 : Memref sig .tc .vmem S1x512 .f32) (harg9 : arg9.IsWhole) (arg10 : Memref sig .tc .vmem S1x512 .f32) (harg10 : arg10.IsWhole)
    (x0 : Vec Ideal S8 .f32) (x1 : Vec Ideal S3072x3072 .fp8e4m3) (x2 : Vec Ideal S3072x3072 .fp8e4m3) (x3 : Vec Ideal S3072x8192 .bf16) (x4 : Vec Ideal S3072x8192 .bf16) :
    out0_A_10 c arg0 harg0 arg1 harg1 arg2 harg2 arg3 harg3 arg4 harg4 arg5 harg5 arg6 harg6 arg7 harg7 arg8 harg8 arg9 harg9 arg10 harg10 x0 x1 x2 x3 x4 = Cert.Fwd.Spec.colMax x4 := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S3072x8192) hz, View.ld_unit_zero (S := S3072x3072) hz, k0_pay3, k0_pay5, shapeCast_self]
  exact funext fun i => rows_max x4 i

variable (m : (ℓ : Loc nD τ sig) → Buf (Elt Ideal) ℓ) (ρ : Dev nD → PrngReg)

/-- The gradient as the call receives it: its two leading axes merged. -/
abbrev grad (c : Dev nD) : (⟨2, ![3072, 8192]⟩ : Shape).Idx → EReal :=
  shapeCast S3072x8192 (m ((c : Thread nD τ).loc main_arg4)) shapeCasts_S2x1536x8192_S3072x8192

theorem V_v0 (c : Dev nD) : (V m c main_v0 : S3072x8192.Idx → EReal) = grad m c := rfl

/-! Each argument's block is the whole array. -/

theorem blk0 (c : Dev nD) (t : Fin cfg0.N) : (iblk m c 0 t : Vec Ideal S8 .f32) = m ((c : Thread nD τ).loc main_arg0) := by
  have hz : (fun a => win0_0.index t a * main_arg0.ty.shape.size a) = fun _ => 0 :=
    funext fun a => by fin_cases a <;> exact (Nat.mul_eq_zero.mpr (.inl rfl))
  exact (Memref.read_access_unit_zero (Elt Ideal) main_arg0 hz (fun a => by rw [congrFun hz a]; simp) (V m c main_arg0)).trans (V_main_arg0 m c)

theorem blk1 (c : Dev nD) (t : Fin cfg0.N) : (iblk m c 1 t : Vec Ideal S3072x3072 .fp8e4m3) = m ((c : Thread nD τ).loc main_arg1) := by
  have hz : (fun a => win0_1.index t a * main_arg1.ty.shape.size a) = fun _ => 0 :=
    funext fun a => by fin_cases a <;> exact (Nat.mul_eq_zero.mpr (.inl rfl))
  exact (Memref.read_access_unit_zero (Elt Ideal) main_arg1 hz (fun a => by rw [congrFun hz a]; simp) (V m c main_arg1)).trans (V_main_arg1 m c)

theorem blk2 (c : Dev nD) (t : Fin cfg0.N) : (iblk m c 2 t : Vec Ideal S3072x3072 .fp8e4m3) = m ((c : Thread nD τ).loc main_arg2) := by
  have hz : (fun a => win0_2.index t a * main_arg2.ty.shape.size a) = fun _ => 0 :=
    funext fun a => by fin_cases a <;> exact (Nat.mul_eq_zero.mpr (.inl rfl))
  exact (Memref.read_access_unit_zero (Elt Ideal) main_arg2 hz (fun a => by rw [congrFun hz a]; simp) (V m c main_arg2)).trans (V_main_arg2 m c)

theorem blk3 (c : Dev nD) (t : Fin cfg0.N) : (iblk m c 3 t : Vec Ideal S3072x8192 .bf16) = m ((c : Thread nD τ).loc main_arg3) := by
  have hz : (fun a => win0_3.index t a * main_arg3.ty.shape.size a) = fun _ => 0 :=
    funext fun a => by fin_cases a <;> exact (Nat.mul_eq_zero.mpr (.inl rfl))
  exact (Memref.read_access_unit_zero (Elt Ideal) main_arg3 hz (fun a => by rw [congrFun hz a]; simp) (V m c main_arg3)).trans (V_main_arg3 m c)

theorem blk4 (c : Dev nD) (t : Fin cfg0.N) : (iblk m c 4 t : Vec Ideal S3072x8192 .bf16) = grad m c := by
  have hz : (fun a => win0_4.index t a * main_v0.ty.shape.size a) = fun _ => 0 :=
    funext fun a => by fin_cases a <;> exact (Nat.mul_eq_zero.mpr (.inl rfl))
  exact (Memref.read_access_unit_zero (Elt Ideal) main_v0 hz (fun a => by rw [congrFun hz a]; simp) (V m c main_v0)).trans (V_v0 m c)

/-- Result 0. -/
abbrev result5 (c : Dev nD) : Buf (Elt Ideal) ((c : Thread nD τ).loc main_v1_0) := Cert.Fwd.Spec.y (m ((c : Thread nD τ).loc main_arg0)) (m ((c : Thread nD τ).loc main_arg1)) (m ((c : Thread nD τ).loc main_arg3))

theorem flushed_eq5 (c : Dev nD) (t : Fin cfg0.N) :
    (dats m 0 c).flushed 5 t = ((cfg0.win 5).blk t).view.read (Elt Ideal) (result5 m c) := by
  have hz : (fun a => win0_5.index t a * main_v1_0.ty.shape.size a) = fun _ => 0 :=
    funext fun a => by fin_cases a <;> exact (Nat.mul_eq_zero.mpr (.inl rfl))
  rw [flushed5_A, out_A_5, blk0, blk1, blk3]
  exact (Memref.read_access_unit_zero (Elt Ideal) main_v1_0 hz (fun a => by rw [congrFun hz a]; simp) (result5 m c)).symm

theorem final5 (c : Dev nD) : (dats m 0 c).arrAt 5 cfg0.N = result5 m c :=
  (dats m 0 c).arrAt_eq_of_cover 5 (result5 m c) (fun t _ => flushed_eq5 m c t) fun (i : S3072x8192.Idx) => by
    have hz : (fun a => win0_5.index t0_0 a * main_v1_0.ty.shape.size a) = fun _ => 0 :=
      funext fun a => by fin_cases a <;> exact (Nat.mul_eq_zero.mpr (.inl rfl))
    refine ⟨t0_0, flush0_5 t0_0, ?_⟩
    show i ∈ ((View.whole main_v1_0).slice (win0_5.rect t0_0)).set
    rw [View.set_slice_whole]
    exact View.mem_set_unit_zero hz (fun a => by rw [congrFun hz a]; simp) i

/-- Result 1. -/
abbrev result6 (c : Dev nD) : Buf (Elt Ideal) ((c : Thread nD τ).loc main_v1_1) := Cert.Fwd.Spec.dw (m ((c : Thread nD τ).loc main_arg0)) (m ((c : Thread nD τ).loc main_arg2)) (grad m c)

theorem flushed_eq6 (c : Dev nD) (t : Fin cfg0.N) :
    (dats m 0 c).flushed 6 t = ((cfg0.win 6).blk t).view.read (Elt Ideal) (result6 m c) := by
  have hz : (fun a => win0_6.index t a * main_v1_1.ty.shape.size a) = fun _ => 0 :=
    funext fun a => by fin_cases a <;> exact (Nat.mul_eq_zero.mpr (.inl rfl))
  rw [flushed6_A, out_A_6, blk0, blk2, blk4]
  exact (Memref.read_access_unit_zero (Elt Ideal) main_v1_1 hz (fun a => by rw [congrFun hz a]; simp) (result6 m c)).symm

theorem final6 (c : Dev nD) : (dats m 0 c).arrAt 6 cfg0.N = result6 m c :=
  (dats m 0 c).arrAt_eq_of_cover 6 (result6 m c) (fun t _ => flushed_eq6 m c t) fun (i : S3072x8192.Idx) => by
    have hz : (fun a => win0_6.index t0_0 a * main_v1_1.ty.shape.size a) = fun _ => 0 :=
      funext fun a => by fin_cases a <;> exact (Nat.mul_eq_zero.mpr (.inl rfl))
    refine ⟨t0_0, flush0_6 t0_0, ?_⟩
    show i ∈ ((View.whole main_v1_1).slice (win0_6.rect t0_0)).set
    rw [View.set_slice_whole]
    exact View.mem_set_unit_zero hz (fun a => by rw [congrFun hz a]; simp) i

/-- Result 2. -/
abbrev result7 (c : Dev nD) : Buf (Elt Ideal) ((c : Thread nD τ).loc main_v1_2) := Cert.Fwd.Spec.wCodes (m ((c : Thread nD τ).loc main_arg0)) (m ((c : Thread nD τ).loc main_arg3))

theorem flushed_eq7 (c : Dev nD) (t : Fin cfg0.N) :
    (dats m 0 c).flushed 7 t = ((cfg0.win 7).blk t).view.read (Elt Ideal) (result7 m c) := by
  have hz : (fun a => win0_7.index t a * main_v1_2.ty.shape.size a) = fun _ => 0 :=
    funext fun a => by fin_cases a <;> exact (Nat.mul_eq_zero.mpr (.inl rfl))
  rw [flushed7_A, out_A_7, blk0, blk3]
  exact (Memref.read_access_unit_zero (Elt Ideal) main_v1_2 hz (fun a => by rw [congrFun hz a]; simp) (result7 m c)).symm

theorem final7 (c : Dev nD) : (dats m 0 c).arrAt 7 cfg0.N = result7 m c :=
  (dats m 0 c).arrAt_eq_of_cover 7 (result7 m c) (fun t _ => flushed_eq7 m c t) fun (i : S3072x8192.Idx) => by
    have hz : (fun a => win0_7.index t0_0 a * main_v1_2.ty.shape.size a) = fun _ => 0 :=
      funext fun a => by fin_cases a <;> exact (Nat.mul_eq_zero.mpr (.inl rfl))
    refine ⟨t0_0, flush0_7 t0_0, ?_⟩
    show i ∈ ((View.whole main_v1_2).slice (win0_7.rect t0_0)).set
    rw [View.set_slice_whole]
    exact View.mem_set_unit_zero hz (fun a => by rw [congrFun hz a]; simp) i

/-- Result 3. -/
abbrev result8 (c : Dev nD) : Buf (Elt Ideal) ((c : Thread nD τ).loc main_v1_3) := Cert.Fwd.Spec.dyCodes (m ((c : Thread nD τ).loc main_arg0)) (grad m c)

theorem flushed_eq8 (c : Dev nD) (t : Fin cfg0.N) :
    (dats m 0 c).flushed 8 t = ((cfg0.win 8).blk t).view.read (Elt Ideal) (result8 m c) := by
  have hz : (fun a => win0_8.index t a * main_v1_3.ty.shape.size a) = fun _ => 0 :=
    funext fun a => by fin_cases a <;> exact (Nat.mul_eq_zero.mpr (.inl rfl))
  rw [flushed8_A, out_A_8, blk0, blk4]
  exact (Memref.read_access_unit_zero (Elt Ideal) main_v1_3 hz (fun a => by rw [congrFun hz a]; simp) (result8 m c)).symm

theorem final8 (c : Dev nD) : (dats m 0 c).arrAt 8 cfg0.N = result8 m c :=
  (dats m 0 c).arrAt_eq_of_cover 8 (result8 m c) (fun t _ => flushed_eq8 m c t) fun (i : S3072x8192.Idx) => by
    have hz : (fun a => win0_8.index t0_0 a * main_v1_3.ty.shape.size a) = fun _ => 0 :=
      funext fun a => by fin_cases a <;> exact (Nat.mul_eq_zero.mpr (.inl rfl))
    refine ⟨t0_0, flush0_8 t0_0, ?_⟩
    show i ∈ ((View.whole main_v1_3).slice (win0_8.rect t0_0)).set
    rw [View.set_slice_whole]
    exact View.mem_set_unit_zero hz (fun a => by rw [congrFun hz a]; simp) i

/-- Result 4. -/
abbrev result9 (c : Dev nD) : Buf (Elt Ideal) ((c : Thread nD τ).loc main_v1_4) := Cert.Fwd.Spec.colMax (m ((c : Thread nD τ).loc main_arg3))

theorem flushed_eq9 (c : Dev nD) (t : Fin cfg0.N) :
    (dats m 0 c).flushed 9 t = ((cfg0.win 9).blk t).view.read (Elt Ideal) (result9 m c) := by
  have hz : (fun a => win0_9.index t a * main_v1_4.ty.shape.size a) = fun _ => 0 :=
    funext fun a => by fin_cases a <;> exact (Nat.mul_eq_zero.mpr (.inl rfl))
  rw [flushed9_A, out_A_9, blk3]
  exact (Memref.read_access_unit_zero (Elt Ideal) main_v1_4 hz (fun a => by rw [congrFun hz a]; simp) (result9 m c)).symm

theorem final9 (c : Dev nD) : (dats m 0 c).arrAt 9 cfg0.N = result9 m c :=
  (dats m 0 c).arrAt_eq_of_cover 9 (result9 m c) (fun t _ => flushed_eq9 m c t) fun (i : S1x512.Idx) => by
    have hz : (fun a => win0_9.index t0_0 a * main_v1_4.ty.shape.size a) = fun _ => 0 :=
      funext fun a => by fin_cases a <;> exact (Nat.mul_eq_zero.mpr (.inl rfl))
    refine ⟨t0_0, flush0_9 t0_0, ?_⟩
    show i ∈ ((View.whole main_v1_4).slice (win0_9.rect t0_0)).set
    rw [View.set_slice_whole]
    exact View.mem_set_unit_zero hz (fun a => by rw [congrFun hz a]; simp) i

/-- Result 5. -/
abbrev result10 (c : Dev nD) : Buf (Elt Ideal) ((c : Thread nD τ).loc main_v1_5) := Cert.Fwd.Spec.colMax (grad m c)

theorem flushed_eq10 (c : Dev nD) (t : Fin cfg0.N) :
    (dats m 0 c).flushed 10 t = ((cfg0.win 10).blk t).view.read (Elt Ideal) (result10 m c) := by
  have hz : (fun a => win0_10.index t a * main_v1_5.ty.shape.size a) = fun _ => 0 :=
    funext fun a => by fin_cases a <;> exact (Nat.mul_eq_zero.mpr (.inl rfl))
  rw [flushed10_A, out_A_10, blk4]
  exact (Memref.read_access_unit_zero (Elt Ideal) main_v1_5 hz (fun a => by rw [congrFun hz a]; simp) (result10 m c)).symm

theorem final10 (c : Dev nD) : (dats m 0 c).arrAt 10 cfg0.N = result10 m c :=
  (dats m 0 c).arrAt_eq_of_cover 10 (result10 m c) (fun t _ => flushed_eq10 m c t) fun (i : S1x512.Idx) => by
    have hz : (fun a => win0_10.index t0_0 a * main_v1_5.ty.shape.size a) = fun _ => 0 :=
      funext fun a => by fin_cases a <;> exact (Nat.mul_eq_zero.mpr (.inl rfl))
    refine ⟨t0_0, flush0_10 t0_0, ?_⟩
    show i ∈ ((View.whole main_v1_5).slice (win0_10.rect t0_0)).set
    rw [View.set_slice_whole]
    exact View.mem_set_unit_zero hz (fun a => by rw [congrFun hz a]; simp) i

end Cert.FwdDwRefIdeal.Value

end
-- ==== Proof.History.lean ====
module

public import proofs.«01_k».proof.Proof.Spec
public import proofs.«01_k».proof.Proof.FwdKernelMax
public import proofs.«01_k».proof.Proof.FwdReference

/-!
The new history of maxima, which the host makes after the call: its newest column is three maxima over whole arrays, the other
fifteen are the old history's first fifteen.
-/

@[expose] public section

noncomputable section

open Idealize.ShloMosaic Idealize.ShloMosaic.TcCoe Idealize.ShloMosaic.ValueIdx

namespace Cert.Fwd.History

theorem foldl_max_le {n : ℕ} (g : Fin n → EReal) (z : EReal) : ∀ (l : List (Fin n)) (b : EReal),
    l.foldl (fun r k => max r (g k)) b ≤ z ↔ b ≤ z ∧ ∀ k ∈ l, g k ≤ z := by
  intro l
  induction l with
  | nil => intro b; simp
  | cons a l ih =>
    intro b
    rw [List.foldl_cons, ih, max_le_iff, and_assoc, List.forall_mem_cons]

/-- A bound on the host's maximum over a whole array, starting at minus infinity. -/
theorem hostMax_le {s : Shape} {axes : List (Fin s.rank)} (x : FVec Ideal s .f32) (h : s.ReducesTo axes ⟨0, ![]⟩) (hu : 0 < (⟨0, ![]⟩ : Shape).numel)
    (j : (⟨0, ![]⟩ : Shape).Idx) (z : EReal) :
    (Host.reduce (FloatOps.maximumf (F := Ideal) (φ := .f32)) x (constant (F := Ideal) ⟨0, ![]⟩ .f32 0xFF800000#32) h hu j : EReal) ≤ z ↔ ∀ i, (x i : EReal) ≤ z := by
  have e := foldl_max_le (fun n => (x (s.rowMajor.symm n) : EReal)) z ((List.finRange s.numel).filter fun n => h.drop (s.rowMajor.symm n) = j) (Ideal.ofBits .f32 0xFF800000#32)
  refine e.trans ⟨fun H i => ?_, fun H => ⟨?_, fun n _ => H _⟩⟩
  · have := H.2 (s.rowMajor i) (List.mem_filter.mpr ⟨List.mem_finRange _, decide_eq_true (funext fun a => a.elim0)⟩)
    rwa [Equiv.symm_apply_apply] at this
  · rw [show Ideal.ofBits .f32 0xFF800000#32 = (⊥ : EReal) from by simp [Ideal.ofBits, Ideal.ieee]]
    exact bot_le

/-- A row-major reading has the entries of what it reads. -/
theorem forall_shapeCast {s t : Shape} (v : s.Idx → EReal) (h : s.ShapeCasts t) (P : EReal → Prop) :
    (∀ i, P (shapeCast t v h i)) ↔ ∀ j, P (v j) := by
  constructor
  · intro H j
    have := H ((Shape.reshapeEquiv h).symm j)
    unfold shapeCast at this
    rwa [Equiv.apply_symm_apply] at this
  · intro H i
    exact H _

/-- The largest magnitude of the columns' maxima is that of the array. -/
theorem colMax_all (w : (⟨2, ![3072, 8192]⟩ : Shape).Idx → EReal) (z : EReal) :
    (∀ i, Cert.Fwd.Spec.colMax w i ≤ z) ↔ ∀ j, max (w j) (-w j) ≤ z := by
  unfold Cert.Fwd.Spec.colMax
  simp only [iSup_le_iff]
  constructor
  · intro H j
    obtain ⟨r, c, rfl⟩ : ∃ r c, j = ix2 r c := ⟨_, _, eq_ix2 j⟩
    have hc : c.val < 8192 := c.isLt
    have := H (ix2 0 ⟨c.val % 512, by omega⟩) ⟨c.val / 512, by omega⟩ r
    have hcol : (⟨c.val / 512 * 512 + c.val % 512, by omega⟩ : Fin 8192) = c := Fin.ext (by show c.val / 512 * 512 + c.val % 512 = c.val; omega)
    have e : ix2 r (⟨c.val / 512 * 512 + c.val % 512, by omega⟩ : Fin 8192) = ix2 r c := congrArg (ix2 r) hcol
    rw [← e]
    exact this
  · intro H i b r
    exact H _

section
open Cert.FwdDwIdeal Cert.FwdDwIdeal.Gen

/-- A number as a vector of one entry. -/
def one (a : FVec Ideal S_ .f32) : FVec Ideal S1 .f32 := broadcastInDim S1 ![] bcast_S_S1 a

/-- The three maxima before the first fifteen columns of the old history. -/
def history (a b d : FVec Ideal S1 .f32) (h : FVec Ideal S3x16 .f32) : FVec Ideal S3x16 .f32 :=
  concatenate S3x16 1 [⟨S3x1, broadcastInDim S3x1 ![0] bcast_S3_S3x1_0 (concatenate S3 0 [⟨S1, a⟩, ⟨S1, b⟩, ⟨S1, d⟩] concatenates_S1_S1_S1_S3_d0)⟩,
    ⟨S3x15, extractStridedSlice S3x15 ![0, 0] h slices_S3x16_S3x15_0_0⟩] concatenates_S3x1_S3x15_S3x16_d1

/-- The maximum over a whole array, as the host takes it. -/
def top {s : Shape} {axes : List (Fin s.rank)} (x : FVec Ideal s .f32) (h : s.ReducesTo axes S_) : FVec Ideal S_ .f32 :=
  Host.reduce (FloatOps.maximumf (F := Ideal) (φ := .f32)) x (constant (F := Ideal) S_ .f32 0xFF800000#32) h h_S_

theorem history_eq {a a' b b' d d' : FVec Ideal S1 .f32} {h h' : FVec Ideal S3x16 .f32} (ea : a = a') (eb : b = b') (ed : d = d') (eh : h = h') :
    history a b d h = history a' b' d' h' := by
  rw [ea, eb, ed, eh]
end

section
open Cert.FwdDwIdeal Cert.FwdDwIdeal.Gen

variable (W : Valuation τ sig (Elt Ideal))

theorem kernel_row0 : StableHlo.after (hostOps1.take 9) W (Proc.devRef .tc main_v5) = one (top (W (Proc.devRef .tc main_arg5)) reducesTo_S1x3072_S_d0_1) := by
  show StableHlo.after [_, _, _, _, _, _, _, _, _] W (Proc.devRef .tc main_v5) = _
  after_results
  rfl

theorem kernel_row1 : StableHlo.after (hostOps1.take 9) W (Proc.devRef .tc main_v6) = one (top (W (Proc.devRef .tc main_v1_4)) reducesTo_S1x512_S_d0_1) := by
  show StableHlo.after [_, _, _, _, _, _, _, _, _] W (Proc.devRef .tc main_v6) = _
  after_results
  rfl

theorem kernel_row2 : StableHlo.after (hostOps1.take 9) W (Proc.devRef .tc main_v7) = one (top (W (Proc.devRef .tc main_v1_5)) reducesTo_S1x512_S_d0_1) := by
  show StableHlo.after [_, _, _, _, _, _, _, _, _] W (Proc.devRef .tc main_v7) = _
  after_results
  rfl

theorem kernel_after : StableHlo.after hostOps1 W (Proc.devRef .tc main_v11)
    = history (one (top (W (Proc.devRef .tc main_arg5)) reducesTo_S1x3072_S_d0_1)) (one (top (W (Proc.devRef .tc main_v1_4)) reducesTo_S1x512_S_d0_1))
        (one (top (W (Proc.devRef .tc main_v1_5)) reducesTo_S1x512_S_d0_1)) (W (Proc.devRef .tc main_arg6)) := by
  rw [← kernel_row0, ← kernel_row1, ← kernel_row2]
  after_results
  rfl

/-- The call's arrays as the operations after it find them. -/
abbrev found (m : (ℓ : Loc nD τ sig) → Buf (Elt Ideal) ℓ) (c : Dev nD) : Valuation τ sig (Elt Ideal) :=
  Pipeline.withArrays spec0 c (V0 m c) fun w => (dats m 0 c).arrAt w cfg0.N

theorem arrays_injective : Function.Injective (Pipeline.arrRef spec0) := by
  have : ∀ a b, Pipeline.arrRef spec0 a = Pipeline.arrRef spec0 b → a = b := by decide
  exact fun a b => this a b

theorem found_out (m : (ℓ : Loc nD τ sig) → Buf (Elt Ideal) ℓ) (c : Dev nD) (w : Fin cfg0.W) :
    found m c (Proc.devRef .tc (Pipeline.arrRef spec0 w)) = (dats m 0 c).arrAt w cfg0.N :=
  Pipeline.withArrays_arr spec0 arrays_injective c (V0 m c) (fun w => (dats m 0 c).arrAt w cfg0.N) w

theorem found_arg5 (m : (ℓ : Loc nD τ sig) → Buf (Elt Ideal) ℓ) (c : Dev nD) :
    found m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem found_arg6 (m : (ℓ : Loc nD τ sig) → Buf (Elt Ideal) ℓ) (c : Dev nD) :
    found m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem kernel_tail (m : (ℓ : Loc nD τ sig) → Buf (Elt Ideal) ℓ) (c : Dev nD) :
    Cert.FwdDwIdeal.Value.tail m c = history (one (top (m ((c : Thread nD τ).loc main_arg5)) reducesTo_S1x3072_S_d0_1))
      (one (top (Cert.FwdDwIdeal.Value.result9 m c) reducesTo_S1x512_S_d0_1)) (one (top (Cert.FwdDwIdeal.Value.result10 m c) reducesTo_S1x512_S_d0_1))
      (m ((c : Thread nD τ).loc main_arg6)) := by
  have e9 : found m c (Proc.devRef .tc main_v1_4) = Cert.FwdDwIdeal.Value.result9 m c := (found_out m c 9).trans (Cert.FwdDwIdeal.Value.final9 m c)
  have e10 : found m c (Proc.devRef .tc main_v1_5) = Cert.FwdDwIdeal.Value.result10 m c := (found_out m c 10).trans (Cert.FwdDwIdeal.Value.final10 m c)
  exact (kernel_after (found m c)).trans (history_eq (congrArg (fun x => one (top x _)) (found_arg5 m c)) (congrArg (fun x => one (top x _)) e9)
    (congrArg (fun x => one (top x _)) e10) (found_arg6 m c))
end

/-! ## The reference's operations after its call -/

section
open Cert.FwdDwRefIdeal Cert.FwdDwRefIdeal.Gen

variable (W : Valuation τ sig (Elt Ideal))

/-- The magnitudes of an array. -/
abbrev magnitude {s : Shape} (x : Vec Ideal s .bf16) : FVec Ideal s .f32 := Host.absf (extf .f32 x bitsLt_bf16_f32)

theorem ref_row0 : StableHlo.after (hostOps1.take 13) W (Proc.devRef .tc main_v9) = one (top (W (Proc.devRef .tc main_arg5)) reducesTo_S1x3072_S_d0_1) := by
  show StableHlo.after [_, _, _, _, _, _, _, _, _, _, _, _, _] W (Proc.devRef .tc main_v9) = _
  after_results
  rfl

theorem ref_row1 : StableHlo.after (hostOps1.take 13) W (Proc.devRef .tc main_v10) = one (top (magnitude (W (Proc.devRef .tc main_arg3))) reducesTo_S3072x8192_S_d0_1) := by
  show StableHlo.after [_, _, _, _, _, _, _, _, _, _, _, _, _] W (Proc.devRef .tc main_v10) = _
  after_results
  rfl

theorem ref_row2 : StableHlo.after (hostOps1.take 13) W (Proc.devRef .tc main_v11) = one (top (magnitude (W (Proc.devRef .tc main_arg4))) reducesTo_S2x1536x8192_S_d0_1_2) := by
  show StableHlo.after [_, _, _, _, _, _, _, _, _, _, _, _, _] W (Proc.devRef .tc main_v11) = _
  after_results
  rfl

theorem ref_after : StableHlo.after hostOps1 W (Proc.devRef .tc main_v15)
    = history (one (top (W (Proc.devRef .tc main_arg5)) reducesTo_S1x3072_S_d0_1)) (one (top (magnitude (W (Proc.devRef .tc main_arg3))) reducesTo_S3072x8192_S_d0_1))
        (one (top (magnitude (W (Proc.devRef .tc main_arg4))) reducesTo_S2x1536x8192_S_d0_1_2)) (W (Proc.devRef .tc main_arg6)) := by
  rw [← ref_row0, ← ref_row1, ← ref_row2]
  after_results
  rfl

/-- The call's arrays as the operations after it find them. -/
abbrev foundRef (m : (ℓ : Loc nD τ sig) → Buf (Elt Ideal) ℓ) (c : Dev nD) : Valuation τ sig (Elt Ideal) :=
  Pipeline.withArrays spec0 c (V0 m c) fun w => (dats m 0 c).arrAt w cfg0.N

theorem arrays_injectiveRef : Function.Injective (Pipeline.arrRef spec0) := by
  have : ∀ a b, Pipeline.arrRef spec0 a = Pipeline.arrRef spec0 b → a = b := by decide
  exact fun a b => this a b

theorem foundRef_arg3 (m : (ℓ : Loc nD τ sig) → Buf (Elt Ideal) ℓ) (c : Dev nD) :
    foundRef m c (Proc.devRef .tc main_arg3) = m ((c : Thread nD τ).loc main_arg3) :=
  (Pipeline.withArrays_arr spec0 arrays_injectiveRef c (V0 m c) (fun w => (dats m 0 c).arrAt w cfg0.N) 3).trans
    (((dats m 0 c).arrAt_in 3 rfl _).trans ((A_eq m c 3).trans (V_main_arg3 m c)))

theorem foundRef_arg4 (m : (ℓ : Loc nD τ sig) → Buf (Elt Ideal) ℓ) (c : Dev nD) :
    foundRef m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem foundRef_arg5 (m : (ℓ : Loc nD τ sig) → Buf (Elt Ideal) ℓ) (c : Dev nD) :
    foundRef m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem foundRef_arg6 (m : (ℓ : Loc nD τ sig) → Buf (Elt Ideal) ℓ) (c : Dev nD) :
    foundRef m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem ref_tail (m : (ℓ : Loc nD τ sig) → Buf (Elt Ideal) ℓ) (c : Dev nD) :
    Cert.FwdDwRefIdeal.Value.tail m c = history (one (top (m ((c : Thread nD τ).loc main_arg5)) reducesTo_S1x3072_S_d0_1))
      (one (top (magnitude (m ((c : Thread nD τ).loc main_arg3))) reducesTo_S3072x8192_S_d0_1))
      (one (top (magnitude (m ((c : Thread nD τ).loc main_arg4))) reducesTo_S2x1536x8192_S_d0_1_2)) (m ((c : Thread nD τ).loc main_arg6)) :=
  (ref_after (foundRef m c)).trans (history_eq (congrArg (fun x => one (top x _)) (foundRef_arg5 m c)) (congrArg (fun x => one (top (magnitude x) _)) (foundRef_arg3 m c))
    (congrArg (fun x => one (top (magnitude x) _)) (foundRef_arg4 m c)) (foundRef_arg6 m c))
end

/-- The largest magnitude of an array is the largest of its columns' maxima. -/
theorem top_colMax (w : Vec Ideal Cert.FwdDwIdeal.S3072x8192 .bf16) :
    top (Cert.Fwd.Spec.colMax w) Cert.FwdDwIdeal.Gen.reducesTo_S1x512_S_d0_1 = top (magnitude w) Cert.FwdDwRefIdeal.Gen.reducesTo_S3072x8192_S_d0_1 := by
  funext j
  refine eq_of_forall_ge_iff fun z => (hostMax_le _ _ _ j z).trans ((colMax_all w z).trans (hostMax_le _ _ _ j z).symm)

theorem top_flat (g : Vec Ideal Cert.FwdDwRefIdeal.S2x1536x8192 .bf16) (h : Cert.FwdDwRefIdeal.S2x1536x8192.ShapeCasts Cert.FwdDwIdeal.S3072x8192) :
    top (Cert.Fwd.Spec.colMax (shapeCast Cert.FwdDwIdeal.S3072x8192 g h)) Cert.FwdDwIdeal.Gen.reducesTo_S1x512_S_d0_1
      = top (magnitude g) Cert.FwdDwRefIdeal.Gen.reducesTo_S2x1536x8192_S_d0_1_2 := by
  funext j
  refine eq_of_forall_ge_iff fun z => (hostMax_le _ _ _ j z).trans ((colMax_all _ z).trans
    ((forall_shapeCast (s := Cert.FwdDwRefIdeal.S2x1536x8192) g h fun x => max x (-x) ≤ z).trans (hostMax_le _ _ _ j z).symm))

/-- Both programs leave the same history. -/
theorem tail_eq (m : (ℓ : Loc Cert.FwdDwIdeal.nD Cert.FwdDwIdeal.τ Cert.FwdDwIdeal.sig) → Buf (Elt Ideal) ℓ) (c : Dev Cert.FwdDwIdeal.nD)
    (m' : (ℓ : Loc Cert.FwdDwRefIdeal.nD Cert.FwdDwRefIdeal.τ Cert.FwdDwRefIdeal.sig) → Buf (Elt Ideal) ℓ)
    (a3 : m' ((c : Thread Cert.FwdDwRefIdeal.nD Cert.FwdDwRefIdeal.τ).loc Cert.FwdDwRefIdeal.main_arg3) = m ((c : Thread Cert.FwdDwIdeal.nD Cert.FwdDwIdeal.τ).loc Cert.FwdDwIdeal.main_arg3))
    (a4 : m' ((c : Thread Cert.FwdDwRefIdeal.nD Cert.FwdDwRefIdeal.τ).loc Cert.FwdDwRefIdeal.main_arg4) = m ((c : Thread Cert.FwdDwIdeal.nD Cert.FwdDwIdeal.τ).loc Cert.FwdDwIdeal.main_arg4))
    (a5 : m' ((c : Thread Cert.FwdDwRefIdeal.nD Cert.FwdDwRefIdeal.τ).loc Cert.FwdDwRefIdeal.main_arg5) = m ((c : Thread Cert.FwdDwIdeal.nD Cert.FwdDwIdeal.τ).loc Cert.FwdDwIdeal.main_arg5))
    (a6 : m' ((c : Thread Cert.FwdDwRefIdeal.nD Cert.FwdDwRefIdeal.τ).loc Cert.FwdDwRefIdeal.main_arg6) = m ((c : Thread Cert.FwdDwIdeal.nD Cert.FwdDwIdeal.τ).loc Cert.FwdDwIdeal.main_arg6)) :
    Cert.FwdDwRefIdeal.Value.tail m' c = Cert.FwdDwIdeal.Value.tail m c := by
  rw [ref_tail, kernel_tail]
  refine history_eq (congrArg (fun x => one (top x _)) a5) (congrArg one ?_) (congrArg one ?_) a6
  · rw [a3]
    exact (top_colMax _).symm
  · rw [a4]
    exact (top_flat _ _).symm

end Cert.Fwd.History

end
-- ==== Proof.DxKernel.lean ====
module

public import proofs.«01_k».proof.Proof.Spec
public import proofs.«01_k».proof.Proof.Gen.DxIdeal.Value

/-!
The input-gradient call over the extended reals: what its nine 1024 × 1024 blocks leave in the result array is, at every
index, the contraction of a row of the gradient codes with a row of the weight codes, times the two inverse scales.
-/

@[expose] public section

noncomputable section

open Idealize.ShloMosaic Idealize.ShloMosaic.TcCoe Idealize.SL.Sem Idealize.ShloMosaic.ValueIdx
open Idealize.ShloMosaic.Pipeline (Dat)
open scoped BigOperators

namespace Cert.DxIdeal.Value

open Cert.DxIdeal Cert.DxIdeal.Gen Cert.Common

/-- The block product of the body, at a row and a column of the block. -/
theorem pay (v0 : Vec Ideal S1024x8192 .fp8e5m2) (v1 : Vec Ideal S1024x8192 .fp8e4m3) (a b : Elt Ideal .f32) (r : Fin 1024) (c : Fin 1024) :
    k0_pay1 v0 v1 a b (ix2 r c) = (∑ k : Fin 8192, (v0 (ix2 r k) * v1 (ix2 c k) : EReal)) * (a * b : EReal) := by
  unfold k0_pay1
  simp only [matmul, truncf_apply, mulf_apply, broadcast_apply]
  rw [show dot_S1024x8192_S1024x8192_S1024x1024_1_1_0_0_n_n = DotDims.transposedRhs 1024 8192 1024 from rfl, matmul_transposed_zero]
  rfl

/-- What the body leaves in the result's block: its one store's payload. -/
theorem out_A (c : Dev nD) (i : grid0.Coords) (arg2 : Memref sig .tc .smem S8 .f32) (harg2 : arg2.IsWhole) (arg3 : Memref sig .tc .vmem S1024x8192 .fp8e5m2) (harg3 : arg3.IsWhole) (arg4 : Memref sig .tc .vmem S1024x8192 .fp8e4m3) (harg4 : arg4.IsWhole) (arg5 : Memref sig .tc .vmem S1024x1024 .bf16) (harg5 : arg5.IsWhole)
    (x0 : Vec Ideal S8 .f32) (x1 : Vec Ideal S1024x8192 .fp8e5m2) (x2 : Vec Ideal S1024x8192 .fp8e4m3) :
    out0_A_3 c i arg2 harg2 arg3 harg3 arg4 harg4 arg5 harg5 x0 x1 x2 = k0_pay1 x1 x2 (x0 (ix1 2)) (x0 (ix1 1)) := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz]
  simp only [View.readAt_eq_ld, harg2.read_unread, harg3.read_unread, harg4.read_unread, View.ld_unit_zero (S := S1024x8192) hz]
  congr 1
  · exact ld_scalar x0 2 (by decide) _ _
  · exact ld_scalar x0 1 (by decide) _ _

variable (m : (ℓ : Loc nD τ sig) → Buf (Elt Ideal) ℓ) (ρ : Dev nD → PrngReg)

/-- The result array the run leaves. -/
abbrev result (c : Dev nD) : Buf (Elt Ideal) ((c : Thread nD τ).loc main_v0) :=
  Cert.Dx.Spec.dx (m ((c : Thread nD τ).loc main_arg0)) (m ((c : Thread nD τ).loc main_arg1)) (m ((c : Thread nD τ).loc main_arg2))

theorem idx0 : ∀ t : Fin cfg0.N, win0_0.index t 0 = 0 :=
  (by decide +kernel : ∀ t : Fin grid0.N, win0_0.index t 0 = 0)
theorem idx1 : ∀ t : Fin cfg0.N, win0_1.index t 0 = win0_3.index t 0 ∧ win0_1.index t 1 = 0 :=
  (by decide +kernel : ∀ t : Fin grid0.N, win0_1.index t 0 = win0_3.index t 0 ∧ win0_1.index t 1 = 0)
theorem idx2 : ∀ t : Fin cfg0.N, win0_2.index t 0 = win0_3.index t 1 ∧ win0_2.index t 1 = 0 :=
  (by decide +kernel : ∀ t : Fin grid0.N, win0_2.index t 0 = win0_3.index t 1 ∧ win0_2.index t 1 = 0)
theorem idx3 : ∀ t : Fin cfg0.N, win0_3.index t 0 < 3 ∧ win0_3.index t 1 < 3 :=
  (by decide +kernel : ∀ t : Fin grid0.N, win0_3.index t 0 < 3 ∧ win0_3.index t 1 < 3)
theorem idx3_onto : ∀ a b : Fin 3, ∃ t : Fin cfg0.N, win0_3.index t 0 = a.val ∧ win0_3.index t 1 = b.val :=
  (by decide +kernel : ∀ a b : Fin 3, ∃ t : Fin grid0.N, win0_3.index t 0 = a.val ∧ win0_3.index t 1 = b.val)

/-- The scales' block is the whole array of scales. -/
theorem blk_sc (c : Dev nD) (t : Fin cfg0.N) (n : Fin 8) :
    (iblk m c 0 t : Vec Ideal S8 .f32) (ix1 n) = m ((c : Thread nD τ).loc main_arg0) (ix1 n) := by
  unfold iblk
  rw [View.read_apply]
  show m ((c : Thread nD τ).loc main_arg0) _ = m ((c : Thread nD τ).loc main_arg0) _
  refine congrArg _ (funext fun a => Fin.ext ?_)
  match a with
  | ⟨0, _⟩ => show win0_0.index t 0 * 8 + 1 * n.val = n.val; rw [idx0]; omega

/-- The gradient codes' block: 1024 full rows, those of the result's block. -/
theorem blk_g (c : Dev nD) (t : Fin cfg0.N) (r : Fin 1024) (k : Fin 8192) :
    (iblk m c 1 t : Vec Ideal S1024x8192 .fp8e5m2) (ix2 r k)
      = m ((c : Thread nD τ).loc main_arg1) (ix2 ⟨win0_3.index t 0 * 1024 + r.val, by have := (idx3 t).1; omega⟩ k) := by
  unfold iblk
  rw [View.read_apply]
  show m ((c : Thread nD τ).loc main_arg1) _ = m ((c : Thread nD τ).loc main_arg1) _
  refine congrArg _ (funext fun a => Fin.ext ?_)
  match a with
  | ⟨0, _⟩ => show win0_1.index t 0 * 1024 + 1 * r.val = win0_3.index t 0 * 1024 + r.val; rw [(idx1 t).1]; omega
  | ⟨1, _⟩ => show win0_1.index t 1 * 8192 + 1 * k.val = k.val; rw [(idx1 t).2]; omega

/-- The weight codes' block: 1024 full rows, those of the result's block's columns. -/
theorem blk_w (c : Dev nD) (t : Fin cfg0.N) (r : Fin 1024) (k : Fin 8192) :
    (iblk m c 2 t : Vec Ideal S1024x8192 .fp8e4m3) (ix2 r k)
      = m ((c : Thread nD τ).loc main_arg2) (ix2 ⟨win0_3.index t 1 * 1024 + r.val, by have := (idx3 t).2; omega⟩ k) := by
  unfold iblk
  rw [View.read_apply]
  show m ((c : Thread nD τ).loc main_arg2) _ = m ((c : Thread nD τ).loc main_arg2) _
  refine congrArg _ (funext fun a => Fin.ext ?_)
  match a with
  | ⟨0, _⟩ => show win0_2.index t 0 * 1024 + 1 * r.val = win0_3.index t 1 * 1024 + r.val; rw [(idx2 t).1]; omega
  | ⟨1, _⟩ => show win0_2.index t 1 * 8192 + 1 * k.val = k.val; rw [(idx2 t).2]; omega

/-- Every point writes back its block of the result. -/
theorem flushed_eq (c : Dev nD) (t : Fin cfg0.N) :
    (dats m 0 c).flushed 3 t = ((cfg0.win 3).blk t).view.read (Elt Ideal) (result m c) := by
  rw [flushed3_A, out_A]
  refine funext fun (y : S1024x1024.Idx) => ?_
  obtain ⟨r, q, rfl⟩ : ∃ r q, y = ix2 r q := ⟨_, _, eq_ix2 y⟩
  rw [View.read_apply]
  show k0_pay1 (iblk m c 1 t) (iblk m c 2 t) _ _ (ix2 r q) = result m c _
  rw [pay]
  have he : ((cfg0.win 3).blk t).view.emb (ix2 r q)
      = (ix2 ⟨win0_3.index t 0 * 1024 + r.val, by have := (idx3 t).1; omega⟩
          ⟨win0_3.index t 1 * 1024 + q.val, by have := (idx3 t).2; omega⟩ : S3072x3072.Idx) := by
    refine funext fun a => Fin.ext ?_
    match a with
    | ⟨0, _⟩ => show win0_3.index t 0 * 1024 + 1 * r.val = win0_3.index t 0 * 1024 + r.val; omega
    | ⟨1, _⟩ => show win0_3.index t 1 * 1024 + 1 * q.val = win0_3.index t 1 * 1024 + q.val; omega
  rw [he]
  simp only [blk_g, blk_w, blk_sc]
  rfl

/-- The nine blocks cover the result. -/
theorem final (c : Dev nD) : (dats m 0 c).arrAt 3 cfg0.N = result m c :=
  (dats m 0 c).arrAt_eq_of_cover 3 (result m c) (fun t _ => flushed_eq m c t) fun (i : S3072x3072.Idx) => by
    have h0 : (i 0).val < 3072 := (i 0).isLt
    have h1 : (i 1).val < 3072 := (i 1).isLt
    obtain ⟨t, ha, hb⟩ := idx3_onto ⟨(i 0).val / 1024, by omega⟩ ⟨(i 1).val / 1024, by omega⟩
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1024 ≤ (i 1 : Nat) ∧ (i 1 : Nat) < win0_3.index t 1 * 1024 + 1024
                rw [hb]; dsimp only; omega

end Cert.DxIdeal.Value

end
-- ==== Proof.DxReference.lean ====
module

public import proofs.«01_k».proof.Proof.Spec
public import proofs.«01_k».proof.Proof.Gen.DxRefIdeal.Value

/-!
The reference of the input-gradient call over the extended reals: one product of the whole arrays.
-/

@[expose] public section

noncomputable section

open Idealize.ShloMosaic Idealize.ShloMosaic.TcCoe Idealize.SL.Sem Idealize.ShloMosaic.ValueIdx
open Idealize.ShloMosaic.Pipeline (Dat)
open scoped BigOperators

namespace Cert.DxRefIdeal.Value

open Cert.DxRefIdeal Cert.DxRefIdeal.Gen Cert.Common

/-- The whole product, at a row and a column. -/
theorem pay (v0 : Vec Ideal S3072x8192 .fp8e5m2) (v1 : Vec Ideal S3072x8192 .fp8e4m3) (a b : Elt Ideal .f32) (r : Fin 3072) (c : Fin 3072) :
    k0_pay1 v0 v1 a b (ix2 r c) = (∑ k : Fin 8192, (v0 (ix2 r k) * v1 (ix2 c k) : EReal)) * (a * b : EReal) := by
  unfold k0_pay1
  simp only [matmul, truncf_apply, mulf_apply, broadcast_apply]
  rw [show dot_S3072x8192_S3072x8192_S3072x3072_1_1_0_0_n_n = DotDims.transposedRhs 3072 8192 3072 from rfl, matmul_transposed_zero]
  rfl

/-- What the body leaves in the result: its one store's payload. -/
theorem out_A (c : Dev nD) (arg0 : Memref sig .tc .smem S8 .f32) (harg0 : arg0.IsWhole) (arg1 : Memref sig .tc .vmem S3072x8192 .fp8e5m2) (harg1 : arg1.IsWhole) (arg2 : Memref sig .tc .vmem S3072x8192 .fp8e4m3) (harg2 : arg2.IsWhole) (arg3 : Memref sig .tc .vmem S3072x3072 .bf16) (harg3 : arg3.IsWhole)
    (x0 : Vec Ideal S8 .f32) (x1 : Vec Ideal S3072x8192 .fp8e5m2) (x2 : Vec Ideal S3072x8192 .fp8e4m3) :
    out0_A_3 c arg0 harg0 arg1 harg1 arg2 harg2 arg3 harg3 x0 x1 x2 = k0_pay1 x1 x2 (x0 (ix1 2)) (x0 (ix1 1)) := by
  unfold out0_A_3
  rw [View.read_writes_eq_canon _ _ _ (cover0_A_3 c arg0 harg0 arg1 harg1 arg2 harg2 arg3 harg3 x0 x1 x2)]
  unfold kernelRun0_A
  dsimp only
  sl_unfold_words
  rw [View.canon_unit_zero hz]
  simp only [View.readAt_eq_ld, harg0.read_unread, harg1.read_unread, harg2.read_unread, View.ld_unit_zero (S := S3072x8192) hz]
  congr 1
  · exact ld_scalar x0 2 (by decide) _ _
  · exact ld_scalar x0 1 (by decide) _ _

variable (m : (ℓ : Loc nD τ sig) → Buf (Elt Ideal) ℓ) (ρ : Dev nD → PrngReg)

/-- The result array the run leaves. -/
abbrev result (c : Dev nD) : Buf (Elt Ideal) ((c : Thread nD τ).loc main_v0) :=
  Cert.Dx.Spec.dx (m ((c : Thread nD τ).loc main_arg0)) (m ((c : Thread nD τ).loc main_arg1)) (m ((c : Thread nD τ).loc main_arg2))

/-! Each argument's block is the whole array. -/

theorem blk0 (c : Dev nD) (t : Fin cfg0.N) : (iblk m c 0 t : Vec Ideal S8 .f32) = m ((c : Thread nD τ).loc main_arg0) := by
  have hz : (fun a => win0_0.index t a * main_arg0.ty.shape.size a) = fun _ => 0 :=
    funext fun a => by fin_cases a <;> exact (Nat.mul_eq_zero.mpr (.inl rfl))
  exact Memref.read_access_unit_zero (Elt Ideal) main_arg0 hz (fun a => by rw [congrFun hz a]; simp) (m ((c : Thread nD τ).loc main_arg0))

theorem blk1 (c : Dev nD) (t : Fin cfg0.N) : (iblk m c 1 t : Vec Ideal S3072x8192 .fp8e5m2) = m ((c : Thread nD τ).loc main_arg1) := by
  have hz : (fun a => win0_1.index t a * main_arg1.ty.shape.size a) = fun _ => 0 :=
    funext fun a => by fin_cases a <;> exact (Nat.mul_eq_zero.mpr (.inl rfl))
  exact Memref.read_access_unit_zero (Elt Ideal) main_arg1 hz (fun a => by rw [congrFun hz a]; simp) (m ((c : Thread nD τ).loc main_arg1))

theorem blk2 (c : Dev nD) (t : Fin cfg0.N) : (iblk m c 2 t : Vec Ideal S3072x8192 .fp8e4m3) = m ((c : Thread nD τ).loc main_arg2) := by
  have hz : (fun a => win0_2.index t a * main_arg2.ty.shape.size a) = fun _ => 0 :=
    funext fun a => by fin_cases a <;> exact (Nat.mul_eq_zero.mpr (.inl rfl))
  exact Memref.read_access_unit_zero (Elt Ideal) main_arg2 hz (fun a => by rw [congrFun hz a]; simp) (m ((c : Thread nD τ).loc main_arg2))

/-- The one point writes back the whole result. -/
theorem flushed_eq (c : Dev nD) (t : Fin cfg0.N) :
    (dats m 0 c).flushed 3 t = ((cfg0.win 3).blk t).view.read (Elt Ideal) (result m c) := by
  have hz : (fun a => win0_3.index t a * main_v0.ty.shape.size a) = fun _ => 0 :=
    funext fun a => by fin_cases a <;> exact (Nat.mul_eq_zero.mpr (.inl rfl))
  rw [flushed3_A, out_A, blk0, blk1, blk2]
  refine Eq.trans ?_ (Memref.read_access_unit_zero (Elt Ideal) main_v0 hz (fun a => by rw [congrFun hz a]; simp) (result m c)).symm
  refine funext fun (y : S3072x3072.Idx) => ?_
  obtain ⟨r, q, rfl⟩ : ∃ r q, y = ix2 r q := ⟨_, _, eq_ix2 y⟩
  show k0_pay1 _ _ _ _ (ix2 r q) = _
  rw [pay]
  rfl

/-- So the result array is the whole product, scaled. -/
theorem final (c : Dev nD) : (dats m 0 c).arrAt 3 cfg0.N = result m c :=
  (dats m 0 c).arrAt_eq_of_cover 3 (result m c) (fun t _ => flushed_eq m c t) fun (i : S3072x3072.Idx) => by
    have hz : (fun a => win0_3.index t0_0 a * main_v0.ty.shape.size a) = fun _ => 0 :=
      funext fun a => by fin_cases a <;> exact (Nat.mul_eq_zero.mpr (.inl rfl))
    refine ⟨t0_0, flush0_3 t0_0, ?_⟩
    show i ∈ ((View.whole main_v0).slice (win0_3.rect t0_0)).set
    rw [View.set_slice_whole]
    exact View.mem_set_unit_zero hz (fun a => by rw [congrFun hz a]; simp) i

end Cert.DxRefIdeal.Value

end
-- ==== Proof.PrepFrame.lean ====
/- The frame of the bit-level `prep`: it runs to the end, nothing faults, the argument arrays end unchanged and every counter reads
   zero. Nothing is said here of what it leaves in its results. -/
module

public import proofs.«01_k».proof.Proof.Gen.Prep.Frame
public import proofs.«01_k».proof.Proof.Gen.Prep.Skeleton
public import Idealize.ShloMosaic.Lib.Claim

@[expose] public section

set_option maxRecDepth 16384

noncomputable section

namespace Cert.Prep.Hand

open Cert.Prep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model that the assertions of this file are over. -/
abbrev MM (F : FTy → Type) := MT nD τ sig Unit (Elt F) ℕ (UR sig nD τ) ℕ

variable (m : (ℓ : Loc nD τ sig) → Buf (Elt F) ℓ) (ρ : Dev nD → PrngReg)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3072x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S8 .f32 := win0_6.stage (cfg0.slots t 6)
abbrev hs0_6 (t : Fin cfg0.N) : (ms0_6 t).IsWhole := hstage0_6 ((cfg0.slots t 6).cast nbuf0_6)

-- (the run's proof term is large: checking it walks past the default budget)
set_option maxHeartbeats 1000000 in
/-- The body's run, at any point: on whole staging memrefs, the inputs' at their contents and the outputs' at anything, it runs to
    the end, the inputs' as they were and the outputs' at something. Whether the first point's branch is taken is decided by cases. -/
theorem kernelRun (c : Dev nD) (i : grid0.Coords) (arg1 : Memref sig .tc .vmem S256x3072 .bf16) (harg1 : arg1.IsWhole) (arg2 : Memref sig .tc .vmem S1x3072 .bf16) (harg2 : arg2.IsWhole) (arg3 : Memref sig .tc .vmem S3x16 .f32) (harg3 : arg3.IsWhole) (arg4 : Memref sig .tc .vmem S256x3072 .fp8e4m3) (harg4 : arg4.IsWhole) (arg5 : Memref sig .tc .vmem S3072x256 .fp8e4m3) (harg5 : arg5.IsWhole) (arg6 : Memref sig .tc .vmem S1x3072 .f32) (harg6 : arg6.IsWhole) (arg7 : Memref sig .tc .smem S8 .f32) (harg7 : arg7.IsWhole)
    (x0 : Vec F S256x3072 .bf16) (x1 : Vec F S1x3072 .bf16) (x2 : Vec F S3x16 .f32) :
      ∀ (E : Set ℕ) (K : PUnit → sProp (MM F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_prep i arg1 harg1 arg2 harg2 arg3 harg3 arg4 harg4 arg5 harg5 arg6 harg6 arg7 harg7) K := by
    intro E K
    simp only [cc0_prep_eq_skeleton]; unfold cc0_prep_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    by_cases hc0 : k0_cond1 i = 1#1 <;> (
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _, _; isplitr; swap; · iexact H3
        ipureintro; rfl
      isplitl [H4]
      · iexists _, _; isplitr; swap; · iexact H4
        ipureintro; rfl
      isplitl [H5]
      · iexists _, _; isplitr; swap; · iexact H5
        ipureintro; rfl
      iexists _, _; isplitr; swap; · iexact H6
      ipureintro; rfl)

/-- The argument arrays end as they were, from a run over relational proof data whose arrays are those that the region finds. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c))⟩) h

/-! ## The pipeline's proof data -/

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Prep`'s statement (Defs.lean) at any `F` — Proof.lean cites it at `Bits`:
    `theorem Cert.Proof.claim : Cert.Claim := ⟨Cert.Prep.Gen.facts, fun m ρ _ => Cert.Prep.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Prep.Hand

end
-- ==== Proof.Words.lean ====
module

public import Idealize.ShloMosaic.Lib.WritesUnit
public import Idealize.ShloMosaic.PureOps

/-!
Eight words in scalar memory, written one at a time: what each reads as afterwards.
-/

@[expose] public section

noncomputable section

open Idealize.ShloMosaic

namespace Cert.Common

/-- A word that the newest piece, one word of the eight, is. -/
theorem word_hit {F : FTy → Type} [FloatOps F] {sig : RefSig} {κ : Kind} {sp : Space} (v : View sig κ sp ⟨1, ![8]⟩ .f32) (f : v.ty.Contents (Elt F)) {k : ℕ}
    (inb : ∀ a, (![k] : Fin 1 → ℕ) a + (![1] : Fin 1 → ℕ) a ≤ (⟨1, ![8]⟩ : Shape).size a) (w : F .f32) (L : List (View.Piece (Elt F) ⟨1, ![8]⟩ .f32)) (x : (⟨1, ![8]⟩ : Shape).Idx)
    (hx : (x 0).val = k) :
    v.read (Elt F) (v.writes (Elt F) f (⟨Rect.unit ![k] ![1] inb, fun _ => w⟩ :: L)) x = w :=
  View.read_writes_cons_unit_of_mem v f inb (fun _ => w) L x (fun a => ⟨0, by fin_cases a; exact Nat.one_pos⟩) rfl
    fun a => by fin_cases a; exact hx

/-- A word before the newest piece, one word of the eight. -/
theorem word_miss {F : FTy → Type} [FloatOps F] {sig : RefSig} {κ : Kind} {sp : Space} (v : View sig κ sp ⟨1, ![8]⟩ .f32) (f : v.ty.Contents (Elt F)) {k : ℕ}
    (inb : ∀ a, (![k] : Fin 1 → ℕ) a + (![1] : Fin 1 → ℕ) a ≤ (⟨1, ![8]⟩ : Shape).size a) (w : F .f32) (L : List (View.Piece (Elt F) ⟨1, ![8]⟩ .f32)) (x : (⟨1, ![8]⟩ : Shape).Idx)
    (hx : (x 0).val < k) :
    v.read (Elt F) (v.writes (Elt F) f (⟨Rect.unit ![k] ![1] inb, fun _ => w⟩ :: L)) x = v.read (Elt F) (v.writes (Elt F) f L) x :=
  View.read_writes_cons_unit_of_not_mem v f inb (fun _ => w) L x rfl 0 (Or.inl hx)

/-- The six words that the first point writes, one after the other. -/
theorem six_words {F : FTy → Type} [FloatOps F] {sig : RefSig} {κ : Kind} {sp : Space} (v : View sig κ sp ⟨1, ![8]⟩ .f32) (f : v.ty.Contents (Elt F)) {i0 i1 i2 i3 i4 i5} (w0 w1 w2 w3 w4 w5 : F .f32) (x : (⟨1, ![8]⟩ : Shape).Idx) :
    let X := v.read (Elt F) (v.writes (Elt F) f
      [⟨Rect.unit ![5] ![1] i5, fun _ => w5⟩, ⟨Rect.unit ![4] ![1] i4, fun _ => w4⟩,
        ⟨Rect.unit ![3] ![1] i3, fun _ => w3⟩, ⟨Rect.unit ![2] ![1] i2, fun _ => w2⟩,
        ⟨Rect.unit ![1] ![1] i1, fun _ => w1⟩, ⟨Rect.unit ![0] ![1] i0, fun _ => w0⟩])
    ((x 0).val = 0 → X x = w0) ∧ ((x 0).val = 1 → X x = w1) ∧ ((x 0).val = 2 → X x = w2) ∧ ((x 0).val = 3 → X x = w3)
      ∧ ((x 0).val = 4 → X x = w4) ∧ ((x 0).val = 5 → X x = w5) := by
  intro X
  refine ⟨fun hx => ?_, fun hx => ?_, fun hx => ?_, fun hx => ?_, fun hx => ?_, fun hx => ?_⟩
  · exact (word_miss (k := 5) _ _ _ _ _ x (by omega)).trans
      ((word_miss (k := 4) _ _ _ _ _ x (by omega)).trans
      ((word_miss (k := 3) _ _ _ _ _ x (by omega)).trans
      ((word_miss (k := 2) _ _ _ _ _ x (by omega)).trans
      ((word_miss (k := 1) _ _ _ _ _ x (by omega)).trans
      (word_hit _ _ _ _ _ x hx)))))
  · exact (word_miss (k := 5) _ _ _ _ _ x (by omega)).trans
      ((word_miss (k := 4) _ _ _ _ _ x (by omega)).trans
      ((word_miss (k := 3) _ _ _ _ _ x (by omega)).trans
      ((word_miss (k := 2) _ _ _ _ _ x (by omega)).trans
      (word_hit _ _ _ _ _ x hx))))
  · exact (word_miss (k := 5) _ _ _ _ _ x (by omega)).trans
      ((word_miss (k := 4) _ _ _ _ _ x (by omega)).trans
      ((word_miss (k := 3) _ _ _ _ _ x (by omega)).trans
      (word_hit _ _ _ _ _ x hx)))
  · exact (word_miss (k := 5) _ _ _ _ _ x (by omega)).trans
      ((word_miss (k := 4) _ _ _ _ _ x (by omega)).trans
      (word_hit _ _ _ _ _ x hx))
  · exact (word_miss (k := 5) _ _ _ _ _ x (by omega)).trans
      (word_hit _ _ _ _ _ x hx)
  · exact word_hit _ _ _ _ _ x hx

end Cert.Common

end
-- ==== Proof.PrepRun.lean ====
/- One run of the idealised `prep` kernel's body, at any grid point, with what it leaves in each of its results named by the
   printed operations. -/
module

public import proofs.«01_k».proof.Proof.Gen.PrepIdeal.Frame
public import proofs.«01_k».proof.Proof.Gen.PrepIdeal.Skeleton
public import Idealize.ShloMosaic.Lib.Claim
public import Idealize.ShloMosaic.Lib.VecWindow
public import proofs.«01_k».proof.Proof.Words

@[expose] public section

set_option maxRecDepth 16384

noncomputable section

namespace Cert.PrepIdeal.Hand

open Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model that the assertions of this file are over. -/
abbrev MM (F : FTy → Type) := MT nD τ sig Unit (Elt F) ℕ (UR sig nD τ) ℕ

/-- The block of codes that the body stores, from its three inputs. -/
def codesOf (x0 : Vec F S256x3072 .bf16) (x1 : Vec F S1x3072 .bf16) (x2 : Vec F S3x16 .f32) : FVec F S256x3072 .fp8e4m3 :=
  k0_pay3 (k0_pay8 x2) (k0_pay19 x0) (k0_pay20 x0) x1

/-- The transposed block of codes. -/
def codesTOf (x0 : Vec F S256x3072 .bf16) (x1 : Vec F S1x3072 .bf16) (x2 : Vec F S3x16 .f32) : FVec F S3072x256 .fp8e4m3 :=
  k0_pay4 (k0_pay8 x2) (k0_pay19 x0) (k0_pay20 x0) x1

/-- The running column maxima after a block, from those before it. -/
def hmaxOf (x0 : Vec F S256x3072 .bf16) (x1 : Vec F S1x3072 .bf16) (y : Vec F S1x3072 .f32) : FVec F S1x3072 .f32 :=
  k0_pay2 (k0_pay19 x0) (k0_pay20 x0) x1 y

/-- What the first six words of the scales' array are to be. -/
def Sc (x2 : Vec F S3x16 .f32) (X : Vec F S8 .f32) : Prop :=
  ∀ x : S8.Idx,
    ((x 0).val = 0 → X x = k0_pay12 (k0_pay7 x2)) ∧ ((x 0).val = 1 → X x = k0_pay13 (k0_pay7 x2))
    ∧ ((x 0).val = 2 → X x = k0_pay14 (iota .tc S3x256 32 [1] iota_S3x256_d1_w32) k0_pay9 (k0_pay10 x2) 23#32)
    ∧ ((x 0).val = 3 → X x = k0_pay15 (k0_pay8 x2)) ∧ ((x 0).val = 4 → X x = k0_pay16 (k0_pay8 x2))
    ∧ ((x 0).val = 5 → X x = k0_pay17 (iota .tc S3x256 32 [1] iota_S3x256_d1_w32) k0_pay9 (k0_pay10 x2) 23#32)

set_option maxHeartbeats 1000000 in
/-- The body's run at the first point. -/
theorem kernelRun_A (c : Dev nD) (i : grid0.Coords) (arg1 : Memref sig .tc .vmem S256x3072 .bf16) (harg1 : arg1.IsWhole) (arg2 : Memref sig .tc .vmem S1x3072 .bf16) (harg2 : arg2.IsWhole) (arg3 : Memref sig .tc .vmem S3x16 .f32) (harg3 : arg3.IsWhole) (arg4 : Memref sig .tc .vmem S256x3072 .fp8e4m3) (harg4 : arg4.IsWhole) (arg5 : Memref sig .tc .vmem S3072x256 .fp8e4m3) (harg5 : arg5.IsWhole) (arg6 : Memref sig .tc .vmem S1x3072 .f32) (harg6 : arg6.IsWhole) (arg7 : Memref sig .tc .smem S8 .f32) (harg7 : arg7.IsWhole)
    (hc0 : k0_cond1 i = 1#1)
    (x0 : Vec F S256x3072 .bf16) (x1 : Vec F S1x3072 .bf16) (x2 : Vec F S3x16 .f32) :
      ∀ (E : Set ℕ) (K : PUnit → sProp (MM F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (codesOf x0 x1 x2) ∗ owns (c : Thread nD τ) arg5 fullShare (codesTOf x0 x1 x2)
                ∗ owns (c : Thread nD τ) arg6 fullShare (hmaxOf x0 x1 k0_pay18) ∗ (∃ X, ⌜Sc x2 X⌝ ∗ owns (c : Thread nD τ) arg7 fullShare X)) -∗ K ⟨⟩))
          ⊢ wp frame (wpE (defs₀ (F := F)) Variants.none c none) E (cc0_prep i arg1 harg1 arg2 harg2 arg3 harg3 arg4 harg4 arg5 harg5 arg6 harg6 arg7 harg7) K := by
    intro E K
    simp only [cc0_prep_eq_skeleton]; unfold cc0_prep_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    have e0 : arg1.view.readAt (Elt F) (Rect.unit ![0, 0] ![256, 3072] inb_S256x3072_S256x3072_0_0).toLoadRect (harg1.unread x0) = x0 :=
      (View.readAt_full _ _ _).trans (harg1.read_unread _)
    have e1 : arg2.view.readAt (Elt F) (Rect.unit ![0, 0] ![1, 3072] inb_S1x3072_S1x3072_0_0).toLoadRect (harg2.unread x1) = x1 :=
      (View.readAt_full _ _ _).trans (harg2.read_unread _)
    have e2 : arg3.view.readAt (Elt F) (Rect.unit ![0, 0] ![3, 16] inb_S3x16_S3x16_0_0).toLoadRect (harg3.unread x2) = x2 :=
      (View.readAt_full _ _ _).trans (harg3.read_unread _)
    isplitl [H3]
    · iexists _; isplitr; swap; · iexact H3
      ipureintro
      refine (View.read_writes_full _ _ _ _ _).trans ?_
      delta kernelRun_A.sl.r_1 kernelRun_A.sl.r_9 kernelRun_A.sl.r_10
      rw [e0, e1, e2]
      rfl
    isplitl [H4]
    · iexists _; isplitr; swap; · iexact H4
      ipureintro
      refine (View.read_writes_full _ _ _ _ _).trans ?_
      delta kernelRun_A.sl.r_1 kernelRun_A.sl.r_9 kernelRun_A.sl.r_10
      rw [e0, e1, e2]
      rfl
    isplitl [H5]
    · iexists _; isplitr; swap; · iexact H5
      ipureintro
      refine (View.read_writes_full _ _ _ _ _).trans ?_
      delta kernelRun_A.sl.r_9 kernelRun_A.sl.r_10 kernelRun_A.sl.v93
      rw [e0, e1]
      refine congrArg (hmaxOf x0 x1) ?_
      exact View.readCov_full _ _ _ _ _
    iexists _; isplitr; swap
    · iexists _; isplitr; swap; · iexact H6
      ipureintro; rfl
    ipureintro
    delta kernelRun_A.sl.r kernelRun_A.sl.r_1 kernelRun_A.sl.r_2 kernelRun_A.sl.v35
    rw [e2]
    intro x
    exact Cert.Common.six_words _ _ _ _ _ _ _ _ x

end Cert.PrepIdeal.Hand

end
-- ==== Proof.PrepRunB.lean ====
/- The idealised `prep` kernel's body at a point after the first. -/
module

public import proofs.«01_k».proof.Proof.Gen.PrepIdeal.Frame
public import proofs.«01_k».proof.Proof.Gen.PrepIdeal.Skeleton
public import Idealize.ShloMosaic.Lib.Claim
public import proofs.«01_k».proof.Proof.PrepRun

@[expose] public section

set_option maxRecDepth 16384

noncomputable section

namespace Cert.PrepIdeal.Hand

open Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body's run at any later point. -/
theorem kernelRun_B (c : Dev nD) (i : grid0.Coords) (arg1 : Memref sig .tc .vmem S256x3072 .bf16) (harg1 : arg1.IsWhole) (arg2 : Memref sig .tc .vmem S1x3072 .bf16) (harg2 : arg2.IsWhole) (arg3 : Memref sig .tc .vmem S3x16 .f32) (harg3 : arg3.IsWhole) (arg4 : Memref sig .tc .vmem S256x3072 .fp8e4m3) (harg4 : arg4.IsWhole) (arg5 : Memref sig .tc .vmem S3072x256 .fp8e4m3) (harg5 : arg5.IsWhole) (arg6 : Memref sig .tc .vmem S1x3072 .f32) (harg6 : arg6.IsWhole) (arg7 : Memref sig .tc .smem S8 .f32) (harg7 : arg7.IsWhole)
    (hc0 : ¬ k0_cond1 i = 1#1)
    (x0 : Vec F S256x3072 .bf16) (x1 : Vec F S1x3072 .bf16) (x2 : Vec F S3x16 .f32) (y5 : Vec F S1x3072 .f32) (y6 : Vec F S8 .f32) :
      ∀ (E : Set ℕ) (K : PUnit → sProp (MM F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare y5 ∗ owns (c : Thread nD τ) arg7 fullShare y6
            ∗ (iprop(owns (c : Thread nD τ) arg1 fullShare x0 ∗ owns (c : Thread nD τ) arg2 fullShare x1 ∗ owns (c : Thread nD τ) arg3 fullShare x2
                ∗ owns (c : Thread nD τ) arg4 fullShare (codesOf x0 x1 x2) ∗ owns (c : Thread nD τ) arg5 fullShare (codesTOf x0 x1 x2)
                ∗ owns (c : Thread nD τ) arg6 fullShare (hmaxOf x0 x1 y5) ∗ owns (c : Thread nD τ) arg7 fullShare y6) -∗ K ⟨⟩))
          ⊢ wp frame (wpE (defs₀ (F := F)) Variants.none c none) E (cc0_prep i arg1 harg1 arg2 harg2 arg3 harg3 arg4 harg4 arg5 harg5 arg6 harg6 arg7 harg7) K := by
    intro E K
    simp only [cc0_prep_eq_skeleton]; unfold cc0_prep_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    have e0 : arg1.view.readAt (Elt F) (Rect.unit ![0, 0] ![256, 3072] inb_S256x3072_S256x3072_0_0).toLoadRect (harg1.unread x0) = x0 :=
      (View.readAt_full _ _ _).trans (harg1.read_unread _)
    have e1 : arg2.view.readAt (Elt F) (Rect.unit ![0, 0] ![1, 3072] inb_S1x3072_S1x3072_0_0).toLoadRect (harg2.unread x1) = x1 :=
      (View.readAt_full _ _ _).trans (harg2.read_unread _)
    have e2 : arg3.view.readAt (Elt F) (Rect.unit ![0, 0] ![3, 16] inb_S3x16_S3x16_0_0).toLoadRect (harg3.unread x2) = x2 :=
      (View.readAt_full _ _ _).trans (harg3.read_unread _)
    isplitl [H3]
    · iexists _; isplitr; swap; · iexact H3
      ipureintro
      refine (View.read_writes_full _ _ _ _ _).trans ?_
      delta kernelRun_B.sl.r_1 kernelRun_B.sl.r_3 kernelRun_B.sl.r_4
      rw [e0, e1, e2]
      rfl
    isplitl [H4]
    · iexists _; isplitr; swap; · iexact H4
      ipureintro
      refine (View.read_writes_full _ _ _ _ _).trans ?_
      delta kernelRun_B.sl.r_1 kernelRun_B.sl.r_3 kernelRun_B.sl.r_4
      rw [e0, e1, e2]
      rfl
    isplitl [H5]
    · iexists _; isplitr; swap; · iexact H5
      ipureintro
      refine (View.read_writes_full _ _ _ _ _).trans ?_
      delta kernelRun_B.sl.r_3 kernelRun_B.sl.r_4
      rw [e0, e1]
      refine congrArg (hmaxOf x0 x1) ?_
      exact (View.readAt_full _ _ _).trans (harg6.read_unread _)
    iexists _; isplitr; swap; · iexact H6
    ipureintro; exact hf6

end Cert.PrepIdeal.Hand

end
-- ==== Proof.PrepIdealFrame.lean ====
/- The frame of the idealised `prep`, with what every write-back of each result holds: the codes and their transpose at each grid
   point, the running column maxima, and the first six words of the scales. -/
module

public import proofs.«01_k».proof.Proof.Gen.PrepIdeal.Frame
public import proofs.«01_k».proof.Proof.PrepRunB
public import Idealize.ShloMosaic.Lib.Pipeline.DatRel
public import Idealize.ShloMosaic.Lib.Claim

@[expose] public section

set_option maxRecDepth 16384

noncomputable section

namespace Cert.PrepIdeal.Hand

open Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3072x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S8 .f32 := win0_6.stage (cfg0.slots t 6)
abbrev hs0_6 (t : Fin cfg0.N) : (ms0_6 t).IsWhole := hstage0_6 ((cfg0.slots t 6).cast nbuf0_6)

/-- The argument arrays end as they were, from a run over relational proof data whose arrays are those that the region finds. -/
theorem frame_of (rd : (c : Dev nD) → Pipeline.RDat τ (Elt F) Unit ℕ (UR sig nD τ) ℕ (cfgs 0) c)
    (hA : ∀ c w, (rd c).A w = V m c (Pipeline.arrRef spec0 w))
    (h : θ_run defs (onTc (τ := τ) (main (F := F))) (s₀ m ρ) (Pipeline.RDat.FramePost (cfgs 0) rd (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c))⟩) h

/-! ## The pipeline's proof data -/

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The grid has a first point. -/
theorem pos0 : 0 < cfg0.N := Nat.lt_of_lt_of_eq (by decide : 0 < 12) N_0.symm

/-- The case: the first point, and only it, writes the scales and starts the maxima. -/
theorem hcond0_0 : ∀ t : Fin cfg0.N, k0_cond1 (grid0.coords t) = 1#1 ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [k0_cond1, e0]
    word_cmp
   : ∀ t : Fin grid0.N, k0_cond1 (grid0.coords t) = 1#1 ↔ t.val % 12 = 0)

/-- The running column maxima after the body at point `n`. -/
def hmAt (c : Dev nD) : (n : ℕ) → n < cfg0.N → FVec F S1x3072 .f32
  | 0, h => hmaxOf (iblk m c 0 ⟨0, h⟩) (iblk m c 1 ⟨0, h⟩) k0_pay18
  | n + 1, h => hmaxOf (iblk m c 0 ⟨n + 1, h⟩) (iblk m c 1 ⟨n + 1, h⟩) (hmAt c n (Nat.lt_of_succ_lt h))

/-- What the body leaves in each result's buffer at point `t`. -/
def Rl (c : Dev nD) (w : Fin cfg0.W) (t : Fin cfg0.N) : ((cfg0.win w).block.Idx → Elt F (cfg0.win w).elt) → Prop :=
  match w with
  | ⟨3, _⟩ => fun X => X = codesOf (iblk m c 0 t) (iblk m c 1 t) (iblk m c 2 t)
  | ⟨4, _⟩ => fun X => X = codesTOf (iblk m c 0 t) (iblk m c 1 t) (iblk m c 2 t)
  | ⟨5, _⟩ => fun X => X = hmAt m c t.val t.isLt
  | ⟨6, _⟩ => fun X => Sc (iblk m c 2 ⟨0, pos0⟩) X
  | _ => fun _ => True

/-- The proof data with the results held to that. -/
abbrev rdat (c : Dev nD) := (dats m 0 c).toRRel forgets0 (Rl m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y))

/-- and what it returns. -/
def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ X, ⌜Rl m c 3 t X⌝ ∗ owns (c : Thread nD τ) (ms0_3 t) fullShare X)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

theorem hmAt_congr (c : Dev nD) {n n' : ℕ} (e : n = n') (h : n < cfg0.N) (h' : n' < cfg0.N) : hmAt m c n h = hmAt m c n' h' := by
  subst e; rfl

theorem Rl5_iff (c : Dev nD) (t : Fin cfg0.N) (X : (cfg0.win 5).block.Idx → Elt F (cfg0.win 5).elt) : Rl m c 5 t X ↔ X = hmAt m c t.val t.isLt := Iff.rfl

theorem Rl6_iff (c : Dev nD) (t : Fin cfg0.N) (X : (cfg0.win 6).block.Idx → Elt F (cfg0.win 6).elt) : Rl m c 6 t X ↔ Sc (iblk m c 2 ⟨0, pos0⟩) X := Iff.rfl

/-- What the body finds in the maxima's buffer after the first point: what the point before left. -/
theorem found5 (c : Dev nD) (k : ℕ) (hn : k + 1 < cfg0.N) (Y) (h : (rdat m c).Finds 5 ⟨k + 1, hn⟩ Y) : Y = hmAt m c k (Nat.lt_of_succ_lt hn) := by
  have hN : k + 1 < 12 := lt_of_lt_of_eq hn (show cfg0.N = 12 from N_0)
  rw [Pipeline.RDat.finds_of_pos _ rfl (Nat.succ_ne_zero k)] at h
  rcases h with h | h
  · have := (flush0_5 _).mp h
    exact absurd this (by show ¬ (k + 1 - 1) % 12 = 11; omega)
  · have h' := (Rl5_iff m c _ _).mp ((dats m 0 c).toRRel_leaves (w := 5) rfl h)
    exact h'.trans (hmAt_congr m c (Nat.add_sub_cancel k 1) _ _)

/-- and in the scales': the six words. -/
theorem found6 (c : Dev nD) (k : ℕ) (hn : k + 1 < cfg0.N) (Y) (h : (rdat m c).Finds 6 ⟨k + 1, hn⟩ Y) : Sc (iblk m c 2 ⟨0, pos0⟩) Y := by
  have hN : k + 1 < 12 := lt_of_lt_of_eq hn (show cfg0.N = 12 from N_0)
  rw [Pipeline.RDat.finds_of_pos _ rfl (Nat.succ_ne_zero k)] at h
  rcases h with h | h
  · have := (flush0_6 _).mp h
    exact absurd this (by show ¬ (k + 1 - 1) % 12 = 11; omega)
  · exact (Rl6_iff m c _ _).mp ((dats m 0 c).toRRel_leaves (w := 6) rfl h)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  have hN : t.val < 12 := lt_of_lt_of_eq t.isLt (show cfg0.N = 12 from N_0)
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  iintro ⟨HΦ, Ho, ⟨%d0, H0⟩, ⟨%d1, H1⟩, ⟨%d2, H2⟩, ⟨%d3, -, H3⟩, ⟨%d4, -, H4⟩, ⟨%d5, %hY5, H5⟩, ⟨%d6, %hY6, H6⟩⟩
  by_cases h0 : t.val % 12 = 0
  · obtain ⟨n, hn⟩ := t
    obtain rfl : n = 0 := by rw [Nat.mod_eq_of_lt hN] at h0; exact h0
    iapply ((kernelRun_A c (grid0.coords ⟨0, hn⟩) _ _ _ _ _ _ _ _ _ _ _ _ _ _ ((hcond0_0 ⟨0, hn⟩).mpr h0) (iblk m c 0 ⟨0, hn⟩) (iblk m c 1 ⟨0, hn⟩) (iblk m c 2 ⟨0, hn⟩)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, H3, H4, H5, ⟨%X, %hX, H6⟩⟩
    isplitl [HΦ]; · iexact HΦ
    isplitl [Ho]; · iexact Ho
    isplitl [H0]; · iexact H0
    isplitl [H1]; · iexact H1
    isplitl [H2]; · iexact H2
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    iexists _; isplitr; swap; · iexact H6
    ipureintro; exact (Rl6_iff m c _ _).mpr hX
  · obtain ⟨n, hn⟩ := t
    obtain ⟨k, rfl⟩ : ∃ k, n = k + 1 := Nat.exists_eq_succ_of_ne_zero fun h => h0 (by show n % 12 = 0; rw [h])
    have hk : k < cfg0.N := Nat.lt_of_succ_lt hn
    have hY5' : d5 = hmAt m c k hk := found5 m c k hn d5 hY5
    have hY6' := found6 m c k hn d6 hY6
    iapply ((kernelRun_B c (grid0.coords ⟨k + 1, hn⟩) _ _ _ _ _ _ _ _ _ _ _ _ _ _ (fun h => h0 ((hcond0_0 ⟨k + 1, hn⟩).mp h)) (iblk m c 0 ⟨k + 1, hn⟩) (iblk m c 1 ⟨k + 1, hn⟩) (iblk m c 2 ⟨k + 1, hn⟩) d5 d6) Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rw [hY5']; exact (Rl5_iff m c _ _).mpr rfl
    iexists _; isplitr; swap; · iexact H6
    ipureintro; exact (Rl6_iff m c _ _).mpr hY6'

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

set_option backward.isDefEq.respectTransparency.types false in
/-- The launch: the run ends, every array as the proof data say, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (Q' := _)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (rdat m) (A_eq m) ((θ_run defs _ _).mono (fun _ h => h.1) (run_main_quiescent m ρ))

/-- The frame: the run ends, the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.PrepIdeal.Hand

end
-- ==== Proof.PrepScale.lean ====
module

public import Idealize.ShloMosaic.Lib.IndicatorCount
public import Idealize.ShloMosaic.Lib.IdealHost

/-!
The power-of-two scales over the extended reals. A word of the form `k <<< 23` is `2 ^ (k - 127)`; the number of those words,
for `k` from 1 to 255, that a normal number reaches is its binary exponent plus 127; so the two scales that the kernel assembles
from that count are two to one more than the rounded-down logarithm, and its inverse.
-/

@[expose] public section

noncomputable section

open Idealize.ShloMosaic
open scoped BigOperators

namespace Cert.Prep.Scale

/-- The number a word with exponent field `k` and nothing else denotes. -/
def pw (k : ℕ) : EReal := Ideal.ofBits .f32 (BitVec.ofNat 32 k <<< 23)

theorem fields : ∀ k : Fin 256, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide +kernel

/-- A word with nothing but an exponent field, of any format. -/
theorem ieee_pow (e m : ℕ) {w : ℕ} (b : BitVec w) (k : ℕ) (hs : (b.extractLsb' (e + m) 1 == 1#1) = false) (he : (b.extractLsb' m e).toNat = k)
    (hf : (b.extractLsb' 0 m).toNat = 0) (h1 : k ≠ 2 ^ e - 1) (h0 : k ≠ 0) :
    Ideal.ieee e m b = (((2 : ℝ) ^ ((k : ℤ) - (2 ^ (e - 1) - 1)) : ℝ) : EReal) := by
  unfold Ideal.ieee
  simp only [hs, he, hf]
  rw [if_neg h1, if_neg h0]
  congr 1
  rw [zpow_sub₀ (by norm_num) _ (m : ℤ), zpow_natCast]
  have h2 : ((2 : ℝ) ^ m) ≠ 0 := pow_ne_zero _ (by norm_num)
  push_cast
  simp only [add_zero, Bool.false_eq_true, if_false, one_mul]
  field_simp

/-- and one with the largest exponent. -/
theorem ieee_top (e m : ℕ) {w : ℕ} (b : BitVec w) (hs : (b.extractLsb' (e + m) 1 == 1#1) = false) (he : (b.extractLsb' m e).toNat = 2 ^ e - 1)
    (hf : (b.extractLsb' 0 m).toNat = 0) : Ideal.ieee e m b = ⊤ := by
  unfold Ideal.ieee
  simp only [hs, he, hf, if_true, Bool.false_eq_true, if_false]

theorem pw_coe {k : ℕ} (h0 : 1 ≤ k) (h1 : k ≤ 254) : pw k = (((2 : ℝ) ^ ((k : ℤ) - 127) : ℝ) : EReal) := by
  obtain ⟨hs, he, hf⟩ := fields ⟨k, by omega⟩
  refine (ieee_pow 8 23 _ k hs he hf (by omega) (by omega)).trans ?_
  rw [show ((2 : ℤ) ^ (8 - 1) - 1) = 127 by norm_num]

theorem pw_top : pw 255 = ⊤ := by
  obtain ⟨hs, he, hf⟩ := fields ⟨255, by omega⟩
  exact ieee_top 8 23 _ hs he hf

/-- How many of the words from 1 to 255 `x` reaches. -/
def cnt (x : EReal) : ℕ := (Finset.univ.filter fun k : Fin 256 => 0 < k.val ∧ pw k.val ≤ x).card

theorem card_le (n : Fin 256) : (Finset.univ.filter fun k : Fin 256 => 0 < k.val ∧ k.val ≤ n.val).card = n.val := by
  have hn := n.isLt
  have e : (Finset.univ.filter fun k : Fin 256 => 0 < k.val ∧ k.val ≤ n.val).map Fin.valEmbedding = Finset.Icc 1 n.val := by
    ext i
    simp only [Finset.mem_map, Finset.mem_filter, Finset.mem_univ, true_and, Fin.valEmbedding_apply, Finset.mem_Icc]
    exact ⟨fun ⟨k, h, e⟩ => e ▸ h, fun h => ⟨⟨i, by omega⟩, h, rfl⟩⟩
  rw [← Finset.card_map Fin.valEmbedding, e, Nat.card_Icc]
  omega

theorem cnt_zero : cnt 0 = 0 := by
  unfold cnt
  rw [Finset.card_eq_zero, Finset.filter_eq_empty_iff]
  rintro k - ⟨h0, h⟩
  have hk := k.isLt
  rcases Nat.lt_or_ge k.val 255 with h1 | h1
  · rw [pw_coe h0 (by omega)] at h
    have : (2 : ℝ) ^ ((k.val : ℤ) - 127) ≤ 0 := by exact_mod_cast h
    exact absurd (zpow_pos (by norm_num : (0 : ℝ) < 2) ((k.val : ℤ) - 127)) (not_lt.mpr this)
  · rw [show k.val = 255 by omega, pw_top] at h
    exact absurd h (by simp)

/-- The binary exponent of a number. -/
def ex (x : ℝ) : ℤ := ⌊Real.log x / Real.log 2⌋

theorem le_ex {x : ℝ} (hx : 0 < x) (j : ℤ) : j ≤ ex x ↔ (2 : ℝ) ^ j ≤ x := by
  unfold ex
  rw [Int.le_floor, le_div_iff₀ (Real.log_pos (by norm_num)), ← Real.log_zpow, Real.log_le_log_iff (zpow_pos (by norm_num) _) hx]

/-- The count of a normal number: its exponent plus 127. -/
theorem cnt_coe {x : ℝ} (h0 : (2 : ℝ) ^ (-126 : ℤ) ≤ x) (h1 : x < (2 : ℝ) ^ (126 : ℤ)) :
    -126 ≤ ex x ∧ ex x ≤ 125 ∧ (cnt (x : EReal) : ℤ) = ex x + 127 := by
  have hx : 0 < x := lt_of_lt_of_le (zpow_pos (by norm_num) _) h0
  have a : -126 ≤ ex x := (le_ex hx _).mpr h0
  have b : ex x ≤ 125 := by
    by_contra hb
    exact absurd ((le_ex hx 126).mp (by omega)) (not_le.mpr h1)
  refine ⟨a, b, ?_⟩
  obtain ⟨n, hn⟩ : ∃ n : ℕ, (n : ℤ) = ex x + 127 := ⟨(ex x + 127).toNat, by omega⟩
  rw [← hn]
  congr 1
  rw [show n = (⟨n, by omega⟩ : Fin 256).val from rfl, ← card_le]
  unfold cnt
  congr 1
  refine Finset.filter_congr fun k _ => and_congr_right fun hk => ?_
  have hk' := k.isLt
  rcases Nat.lt_or_ge k.val 255 with h | h
  · rw [pw_coe hk (by omega), EReal.coe_le_coe_iff, ← le_ex hx]
    show _ ↔ k.val ≤ n
    omega
  · rw [show k.val = 255 by omega, pw_top]
    refine ⟨fun h => absurd h (by simp), fun h => ?_⟩
    have : 255 ≤ n := h
    omega

/-- The exponent of the scale, as the kernel forms it from the count. -/
def ew (x : EReal) : BitVec 32 := if BitVec.ofNat 32 (cnt x) = 0#32 then 0#32 else BitVec.ofNat 32 (cnt x) - 126#32

/-- The scale and its inverse, as the kernel assembles them. -/
def up (x : EReal) : EReal := Ideal.ofBits .f32 ((127#32 + ew x) <<< 23)
def dn (x : EReal) : EReal := Ideal.ofBits .f32 ((127#32 - ew x) <<< 23)

/-- The exponent of the scale, as the reference computes it. -/
def er (a x : EReal) : EReal := if a = 0 then 0 else Ideal.liftRound Int.floor (Ideal.div (Ideal.log x) (Ideal.log (Ideal.ofBits .f32 0x40000000#32))) + 1

/-- A maximum is normal for its constant: zero, or its multiple is a normal number with a normal inverse. -/
def Normal (a x : EReal) : Prop := a = 0 ∨ (((2 : ℝ) ^ (-126 : ℤ) : ℝ) : EReal) ≤ x ∧ x < (((2 : ℝ) ^ (126 : ℤ) : ℝ) : EReal)

theorem exp2_int (n : ℤ) : Ideal.exp2 (((n : ℝ)) : EReal) = (((2 : ℝ) ^ n : ℝ) : EReal) := by
  rw [Ideal.exp2_coe]
  exact congrArg _ (Real.rpow_intCast 2 n)

theorem ofBits_two : Ideal.ofBits .f32 0x40000000#32 = ((2 : ℝ) : EReal) := by
  simp [Ideal.ofBits, Ideal.ieee, -EReal.coe_mul]; norm_num

theorem ofBits_127 : Ideal.ofBits .f32 (127#32 <<< 23) = (1 : EReal) := by
  have h := pw_coe (k := 127) (by decide) (by decide)
  unfold pw at h
  rw [show (127#32 : BitVec 32) = BitVec.ofNat 32 127 from rfl, h]
  norm_num

/-- The two scales agree with the reference's where the maximum is normal. -/
theorem scales {a x : EReal} (hz : a = 0 → x = 0) (h : Normal a x) : up x = Ideal.exp2 (er a x) ∧ dn x = Ideal.exp2 (0 - er a x) := by
  by_cases ha : a = 0
  · have hx := hz ha
    subst hx
    unfold up dn er ew
    rw [cnt_zero, if_pos rfl, if_pos ha, show (127#32 + 0#32 : BitVec 32) = 127#32 from rfl, show (127#32 - 0#32 : BitVec 32) = 127#32 from rfl,
      ofBits_127, sub_zero]
    have e := exp2_int 0
    simp only [Int.cast_zero, EReal.coe_zero, zpow_zero, EReal.coe_one] at e
    exact ⟨e.symm, e.symm⟩
  · obtain ⟨h0, h1⟩ := h.resolve_left ha
    lift x to ℝ using ⟨fun e => by rw [e] at h1; exact absurd h1 (by simp), fun e => by rw [e] at h0; exact absurd h0 (by simp)⟩
    obtain ⟨c0, c1, hc⟩ := cnt_coe (EReal.coe_le_coe_iff.mp h0) (EReal.coe_lt_coe_iff.mp h1)
    have hx : 0 < x := lt_of_lt_of_le (zpow_pos (by norm_num) _) (EReal.coe_le_coe_iff.mp h0)
    have he : er a (x : EReal) = (((ex x + 1 : ℤ) : ℝ) : EReal) := by
      unfold er ex
      rw [if_neg ha, ofBits_two, Ideal.log_coe, Ideal.log_coe, if_neg (not_le.mpr hx), if_neg (by norm_num),
        Ideal.div_coe (Real.log_pos (by norm_num)).ne', ← EReal.coe_mul, Ideal.liftRound_coe, mul_one_div]
      push_cast
      rfl
    obtain ⟨n, hn⟩ : ∃ n, n = cnt (x : EReal) := ⟨_, rfl⟩
    have hn1 : 1 ≤ n := by omega
    have hn2 : n ≤ 252 := by omega
    have w : ∀ n : Fin 253, 1 ≤ n.val → (127#32 + (if BitVec.ofNat 32 n.val = 0#32 then 0#32 else BitVec.ofNat 32 n.val - 126#32)) = BitVec.ofNat 32 (n.val + 1)
        ∧ (127#32 - (if BitVec.ofNat 32 n.val = 0#32 then 0#32 else BitVec.ofNat 32 n.val - 126#32)) = BitVec.ofNat 32 (253 - n.val) := by
      decide +kernel
    obtain ⟨w1, w2⟩ := w ⟨n, by omega⟩ hn1
    dsimp only at w1 w2
    unfold up dn ew
    rw [← hn, w1, w2, he]
    constructor
    · have := pw_coe (k := n + 1) (by omega) (by omega)
      unfold pw at this
      rw [this, exp2_int]
      congr 2
      push_cast
      omega
    · have := pw_coe (k := 253 - n) (by omega) (by omega)
      unfold pw at this
      rw [this, show (0 - (((ex x + 1 : ℤ) : ℝ) : EReal)) = (((-(ex x + 1) : ℤ) : ℝ) : EReal) by
        rw [zero_sub, ← EReal.coe_neg, ← Int.cast_neg], exp2_int]
      congr 2
      omega

end Cert.Prep.Scale

end
-- ==== Proof.PrepPay.lean ====
module

public import proofs.«01_k».proof.Proof.PrepRun
public import proofs.«01_k».proof.Proof.PrepScale
public import proofs.«01_k».proof.Proof.Common
public import Idealize.ShloMosaic.Lib.Pointwise

/-!
The printed operations of the `prep` kernel, read at an index over the extended reals.
-/

@[expose] public section

noncomputable section

open Idealize.ShloMosaic Idealize.ShloMosaic.TcCoe
open scoped BigOperators

namespace Cert.Prep.Spec

/-- The normalised activations, of any number of rows: each element over the root of its row's mean square, times its column's weight. -/
def h {R : ℕ} (X : (⟨2, ![R, 3072]⟩ : Shape).Idx → EReal) (G : (⟨2, ![1, 3072]⟩ : Shape).Idx → EReal) (r : Fin R) (q : Fin 3072) : EReal :=
  X (ix2 r q) * Ideal.rsqrt ((∑ k : Fin 3072, X (ix2 r k) * X (ix2 r k)) * Ideal.ofBits .f32 0x39AAAAAB#32 + Ideal.ofBits .f32 0x358637BD#32) * G (ix2 0 q)

/-- The largest magnitude in a column of them. -/
def hmax {R : ℕ} (X : (⟨2, ![R, 3072]⟩ : Shape).Idx → EReal) (G : (⟨2, ![1, 3072]⟩ : Shape).Idx → EReal) (q : Fin 3072) : EReal :=
  Finset.univ.fold max (Ideal.ofBits .f32 0xFF800000#32) fun r : Fin R => max (h X G r q) (-(h X G r q))

/-- The largest value in a row of the history. -/
def am (H : (⟨2, ![3, 16]⟩ : Shape).Idx → EReal) (r : Fin 3) : EReal :=
  Finset.univ.fold max (Ideal.ofBits .f32 0xFF800000#32) fun k : Fin 16 => H (ix2 r k)

/-- That, times the reciprocal of the format's largest number. -/
def x4 (H : (⟨2, ![3, 16]⟩ : Shape).Idx → EReal) (r : Fin 3) : EReal := am H r * Ideal.ofBits .f32 0x3B124925#32
def x5 (H : (⟨2, ![3, 16]⟩ : Shape).Idx → EReal) (r : Fin 3) : EReal := am H r * Ideal.ofBits .f32 0x37924925#32

/-- A code, from the activation and the inverse scale. -/
def code (h i : EReal) : EReal := min (Ideal.ofBits .f32 0x43E00000#32) (max (Ideal.ofBits .f32 0xC3E00000#32) (h * i))

/-- The array of codes at an inverse scale, its transpose, the row of column maxima, and the eight words that begin with six. -/
def codes (X : (⟨2, ![3072, 3072]⟩ : Shape).Idx → EReal) (G : (⟨2, ![1, 3072]⟩ : Shape).Idx → EReal) (s : EReal) : (⟨2, ![3072, 3072]⟩ : Shape).Idx → EReal :=
  fun i => code (h X G (i 0) (i 1)) s
def codesT (X : (⟨2, ![3072, 3072]⟩ : Shape).Idx → EReal) (G : (⟨2, ![1, 3072]⟩ : Shape).Idx → EReal) (s : EReal) : (⟨2, ![3072, 3072]⟩ : Shape).Idx → EReal :=
  fun i => code (h X G (i 1) (i 0)) s
def maxima (X : (⟨2, ![3072, 3072]⟩ : Shape).Idx → EReal) (G : (⟨2, ![1, 3072]⟩ : Shape).Idx → EReal) : (⟨2, ![1, 3072]⟩ : Shape).Idx → EReal :=
  fun i => hmax X G (i 1)
def words (w : Fin 6 → EReal) : (⟨1, ![8]⟩ : Shape).Idx → EReal := fun i => if e : (i 0).val < 6 then w ⟨(i 0).val, e⟩ else 0

/-- Eight words whose first six are given agree with them there. -/
theorem words_of (w : Fin 6 → EReal) (X : (⟨1, ![8]⟩ : Shape).Idx → EReal) (i : (⟨1, ![8]⟩ : Shape).Idx) (hi : (i 0).val < 6)
    (e : ((i 0).val = 0 → X i = w 0) ∧ ((i 0).val = 1 → X i = w 1) ∧ ((i 0).val = 2 → X i = w 2) ∧ ((i 0).val = 3 → X i = w 3)
      ∧ ((i 0).val = 4 → X i = w 4) ∧ ((i 0).val = 5 → X i = w 5)) : X i = words w i := by
  unfold words
  rw [dif_pos hi]
  generalize hk : (i 0).val = k at hi e ⊢
  obtain ⟨e0, e1, e2, e3, e4, e5⟩ := e
  match k, hi with
  | 0, _ => exact e0 rfl
  | 1, _ => exact e1 rfl
  | 2, _ => exact e2 rfl
  | 3, _ => exact e3 rfl
  | 4, _ => exact e4 rfl
  | 5, _ => exact e5 rfl

end Cert.Prep.Spec

namespace Cert.PrepIdeal.Hand

open Cert.PrepIdeal.Gen Cert.Prep Cert.Prep.Spec

theorem pay19_apply (x0 : Vec Ideal S256x3072 .bf16) (r : Fin 256) (q : Fin 3072) : (k0_pay19 x0 (ix2 r q) : EReal) = x0 (ix2 r q) := by
  unfold k0_pay19
  simp only [pointwise]

theorem pay20_apply (x0 : Vec Ideal S256x3072 .bf16) (r : Fin 256) (q : Fin 3072) : (k0_pay20 x0 (ix2 r q) : EReal)
    = Ideal.rsqrt ((∑ k : Fin 3072, x0 (ix2 r k) * x0 (ix2 r k)) * Ideal.ofBits .f32 0x39AAAAAB#32 + Ideal.ofBits .f32 0x358637BD#32) := by
  unfold k0_pay20
  simp only [pointwise, pay19_apply, Nat.reduceEqDiff, ↓reduceDIte]

theorem pay1_apply (x0 : Vec Ideal S256x3072 .bf16) (x1 : Vec Ideal S1x3072 .bf16) (r : Fin 256) (q : Fin 3072) :
    (k0_pay1 (k0_pay19 x0) (k0_pay20 x0) x1 (ix2 r q) : EReal) = h x0 x1 r q := by
  unfold k0_pay1 h
  simp only [pointwise, pay19_apply, pay20_apply, Nat.reduceEqDiff, ↓reduceDIte]

theorem pay5_apply (x2 : Vec Ideal S3x16 .f32) (r : Fin 3) (z : Fin 1) : (k0_pay5 x2 (ix2 r z) : EReal) = am x2 r := by
  unfold k0_pay5 am
  simp only [pointwise]

theorem hmaxOf_apply (x0 : Vec Ideal S256x3072 .bf16) (x1 : Vec Ideal S1x3072 .bf16) (y : Vec Ideal S1x3072 .f32) (z : Fin 1) (q : Fin 3072) :
    (hmaxOf x0 x1 y (ix2 z q) : EReal) = max (y (ix2 z q) : EReal) (hmax x0 x1 q) := by
  unfold hmaxOf k0_pay2 hmax
  simp only [pointwise, pay1_apply]
  rfl

/-- Words of a lane's number: the shift by 23 and the comparison with zero. -/
theorem shl_word (a : BitVec 32) : IntOp.shli ArithUnit.vector a 23#32 = a <<< 23 := if_pos (by decide)
theorem exp_word (c : BitVec 32) : Scalar.select (IntOp.cmpi CmpIPredicate.eq c 0#32) 0#32 (IntOp.subi c 126#32) = if c = 0#32 then 0#32 else c - 126#32 := by
  by_cases h : c = 0#32
  · subst h; rfl
  · rw [if_neg h]
    have e : IntOp.cmpi CmpIPredicate.eq c 0#32 = 0#1 := by
      show BitVec.ofBool (c == 0#32) = 0#1
      rw [beq_false_of_ne h]; rfl
    rw [e]; rfl
theorem add_word (a b : BitVec 32) : IntOp.addi a b = a + b := rfl
theorem sub_word (a b : BitVec 32) : IntOp.subi a b = a - b := rfl
theorem pos_word : ∀ k : Fin 256, IntOp.cmpi CmpIPredicate.sgt (BitVec.ofNat 32 k.val) 0#32 = BitVec.ofBool (decide (0 < k.val)) := by decide +kernel
theorem sel_word : ∀ a b : Bool, Scalar.select (IntOp.andi (BitVec.ofBool a) (BitVec.ofBool b)) 1#32 0#32 = (BitVec.ofBool (a && b)).setWidth 32 := by decide

/-- The printed sum over the lanes counts the words reached. -/
theorem count_fold (x : EReal) :
    (Finset.univ : Finset (Fin 256)).fold IntOp.addi 0#32 (fun k => Scalar.select (IntOp.andi (IntOp.cmpi CmpIPredicate.sgt (BitVec.ofNat 32 k.val) 0#32)
      (BitVec.ofBool (decide (Ideal.ofBits .f32 (IntOp.shli ArithUnit.vector (BitVec.ofNat 32 k.val) 23#32) ≤ x)))) 1#32 0#32)
      = BitVec.ofNat 32 (Scale.cnt x) := by
  simp only [shl_word, pos_word, sel_word]
  rw [IndicatorCount.fold_addi_setWidth_eq_card]
  unfold Scale.cnt Scale.pw
  refine congrArg (fun S : Finset (Fin 256) => BitVec.ofNat 32 S.card) (Finset.filter_congr fun k _ => ?_)
  rw [← Bool.decide_and]
  by_cases hp : 0 < k.val ∧ Ideal.ofBits .f32 (BitVec.ofNat 32 k.val <<< 23) ≤ x
  · rw [decide_eq_true hp]; exact ⟨fun _ => hp, fun _ => rfl⟩
  · rw [decide_eq_false hp]; exact ⟨fun h => absurd h (by decide), fun h => absurd h hp⟩

/-- The exponents, from the reduced maxima: each from its count. -/
theorem pay11_apply (x : FVec Ideal S3x1 .f32) (r : Fin 3) (z : Fin 1) :
    k0_pay11 (iota .tc S3x256 32 [1] iota_S3x256_d1_w32) k0_pay9 x 23#32 (ix2 r z) = Scale.ew (x (ix2 r 0) : EReal) := by
  have hl : ∀ k : Fin 256, List.foldl (fun n a => n * ![3, 256] a + (ix2 r k a).val) 0 [1] = k.val := fun k => by
    show 0 * 256 + k.val = k.val
    omega
  unfold k0_pay11 k0_pay9
  simp only [pointwise, Nat.reduceEqDiff, ↓reduceDIte, hl]
  rw [count_fold, exp_word]
  rfl

/-- The scales and their inverses, row by row. -/
theorem pay7_apply (x2 : Vec Ideal S3x16 .f32) (r : Fin 3) (z : Fin 1) : (k0_pay7 x2 (ix2 r z) : EReal) = Scale.up (x4 x2 r) := by
  have e : k0_pay6 x2 = k0_pay11 (iota .tc S3x256 32 [1] iota_S3x256_d1_w32) k0_pay9 (mulf (k0_pay5 x2) (broadcast S3x1 (Scalar.ofBits .f32 0x3B124925#32))) 23#32 := rfl
  unfold k0_pay7 Scale.up x4
  simp only [pointwise, e, shl_word, add_word, sub_word]
  refine congrArg (fun b : BitVec 32 => Ideal.ofBits .f32 ((127#32 + b) <<< 23)) ((pay11_apply _ r z).trans (congrArg Scale.ew ?_))
  simp only [pointwise, pay5_apply]

theorem pay8_apply (x2 : Vec Ideal S3x16 .f32) (r : Fin 3) (z : Fin 1) : (k0_pay8 x2 (ix2 r z) : EReal) = Scale.dn (x4 x2 r) := by
  have e : k0_pay6 x2 = k0_pay11 (iota .tc S3x256 32 [1] iota_S3x256_d1_w32) k0_pay9 (mulf (k0_pay5 x2) (broadcast S3x1 (Scalar.ofBits .f32 0x3B124925#32))) 23#32 := rfl
  unfold k0_pay8 Scale.dn x4
  simp only [pointwise, e, shl_word, add_word, sub_word]
  refine congrArg (fun b : BitVec 32 => Ideal.ofBits .f32 ((127#32 - b) <<< 23)) ((pay11_apply _ r z).trans (congrArg Scale.ew ?_))
  simp only [pointwise, pay5_apply]

theorem pay10_apply (x2 : Vec Ideal S3x16 .f32) (r : Fin 3) (z : Fin 1) : (k0_pay10 x2 (ix2 r z) : EReal) = x5 x2 r := by
  unfold k0_pay10 x5
  simp only [pointwise, pay5_apply]

/-- The six words that the first point writes. -/
theorem word0 (x2 : Vec Ideal S3x16 .f32) : (k0_pay12 (k0_pay7 x2) : EReal) = Scale.up (x4 x2 0) := by
  unfold k0_pay12; simp only [pointwise, pay7_apply]
theorem word1 (x2 : Vec Ideal S3x16 .f32) : (k0_pay13 (k0_pay7 x2) : EReal) = Scale.up (x4 x2 1) := by
  unfold k0_pay13; simp only [pointwise, pay7_apply]
theorem word2 (x2 : Vec Ideal S3x16 .f32) : (k0_pay14 (iota .tc S3x256 32 [1] iota_S3x256_d1_w32) k0_pay9 (k0_pay10 x2) 23#32 : EReal) = Scale.up (x5 x2 2) := by
  unfold k0_pay14 Scale.up
  simp only [pointwise, shl_word, add_word, sub_word]
  exact congrArg (fun b : BitVec 32 => Ideal.ofBits .f32 ((127#32 + b) <<< 23)) ((pay11_apply _ 2 0).trans (congrArg Scale.ew (pay10_apply x2 2 0)))
theorem word3 (x2 : Vec Ideal S3x16 .f32) : (k0_pay15 (k0_pay8 x2) : EReal) = Scale.dn (x4 x2 0) := by
  unfold k0_pay15; simp only [pointwise, pay8_apply]
theorem word4 (x2 : Vec Ideal S3x16 .f32) : (k0_pay16 (k0_pay8 x2) : EReal) = Scale.dn (x4 x2 1) := by
  unfold k0_pay16; simp only [pointwise, pay8_apply]
theorem word5 (x2 : Vec Ideal S3x16 .f32) : (k0_pay17 (iota .tc S3x256 32 [1] iota_S3x256_d1_w32) k0_pay9 (k0_pay10 x2) 23#32 : EReal) = Scale.dn (x5 x2 2) := by
  unfold k0_pay17 Scale.dn
  simp only [pointwise, shl_word, add_word, sub_word]
  exact congrArg (fun b : BitVec 32 => Ideal.ofBits .f32 ((127#32 - b) <<< 23)) ((pay11_apply _ 2 0).trans (congrArg Scale.ew (pay10_apply x2 2 0)))

theorem codesOf_apply (x0 : Vec Ideal S256x3072 .bf16) (x1 : Vec Ideal S1x3072 .bf16) (x2 : Vec Ideal S3x16 .f32) (r : Fin 256) (q : Fin 3072) :
    (codesOf x0 x1 x2 (ix2 r q) : EReal) = code (h x0 x1 r q) (Scale.dn (x4 x2 0)) := by
  unfold codesOf k0_pay3 code
  simp only [pointwise, pay1_apply, pay8_apply]

theorem codesTOf_apply (x0 : Vec Ideal S256x3072 .bf16) (x1 : Vec Ideal S1x3072 .bf16) (x2 : Vec Ideal S3x16 .f32) (r : Fin 256) (q : Fin 3072) :
    (codesTOf x0 x1 x2 (ix2 q r) : EReal) = codesOf x0 x1 x2 (ix2 r q) := by
  unfold codesTOf k0_pay4 codesOf
  simp only [pointwise]

end Cert.PrepIdeal.Hand

end
-- ==== Proof.PrepKernel.lean ====
module

public import proofs.«01_k».proof.Proof.PrepPay
public import proofs.«01_k».proof.Proof.PrepIdealFrame
public import Idealize.ShloMosaic.Lib.Pipeline.ArrRel
public import Idealize.ShloMosaic.Lib.Pipeline.Value

/-!
The idealised `prep` kernel over the extended reals: what its run leaves in the four results.
-/

@[expose] public section

noncomputable section

open Idealize.ShloMosaic Idealize.ShloMosaic.TcCoe Idealize.SL.Sem
open Idealize.ShloMosaic.Pipeline (Dat)
open scoped BigOperators

namespace Cert.PrepIdeal.Value

open Cert.PrepIdeal Cert.PrepIdeal.Gen Cert.PrepIdeal.Hand Cert.Prep Cert.Prep.Spec

variable (m : (ℓ : Loc nD τ sig) → Buf (Elt Ideal) ℓ) (ρ : Dev nD → PrngReg)

/-- The arguments as the call receives them: the activations with their two leading axes merged, the weights as a row. -/
abbrev X (c : Dev nD) : (⟨2, ![3072, 3072]⟩ : Shape).Idx → EReal := shapeCast S3072x3072 (m ((c : Thread nD τ).loc main_arg0)) shapeCasts_S2x1536x3072_S3072x3072
abbrev G (c : Dev nD) : (⟨2, ![1, 3072]⟩ : Shape).Idx → EReal := shapeCast S1x3072 (m ((c : Thread nD τ).loc main_arg1)) shapeCasts_S3072_S1x3072
abbrev H (c : Dev nD) : (⟨2, ![3, 16]⟩ : Shape).Idx → EReal := m ((c : Thread nD τ).loc main_arg2)

theorem V_v0 (c : Dev nD) : (V m c main_v0 : S3072x3072.Idx → EReal) = X m c := rfl
theorem V_v1 (c : Dev nD) : (V m c main_v1 : S1x3072.Idx → EReal) = G m c := rfl
theorem V_h (c : Dev nD) : (V m c main_arg2 : S3x16.Idx → EReal) = H m c := V_main_arg2 m c

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = t.val :=
  (by decide +kernel : ∀ t : Fin grid0.N, win0_4.index t 0 = 0 ∧ win0_4.index t 1 = t.val)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 :=
  (by decide +kernel : ∀ t : Fin grid0.N, win0_6.index t 0 = 0)

theorem lt12 (t : Fin cfg0.N) : t.val < 12 := lt_of_lt_of_eq t.isLt N_0

/-- Row `r` of the block of rows `t`. -/
abbrev row (t : Fin cfg0.N) (r : Fin 256) : Fin 3072 := ⟨t.val * 256 + r.val, by have := lt12 t; omega⟩

theorem blk0 (c : Dev nD) (t : Fin cfg0.N) (r : Fin 256) (q : Fin 3072) :
    (iblk m c 0 t : Vec Ideal S256x3072 .bf16) (ix2 r q) = X m c (ix2 (row t r) q) := by
  unfold iblk
  rw [View.read_apply, ← V_v0 m c]
  show V m c main_v0 _ = V m c main_v0 _
  refine congrArg _ (funext fun a => Fin.ext ?_)
  match a with
  | ⟨0, _⟩ => show win0_0.index t 0 * 256 + 1 * r.val = t.val * 256 + r.val; rw [(idx0 t).1]; omega
  | ⟨1, _⟩ => show win0_0.index t 1 * 3072 + 1 * q.val = q.val; rw [(idx0 t).2]; omega

theorem blk1 (c : Dev nD) (t : Fin cfg0.N) : (iblk m c 1 t : Vec Ideal S1x3072 .bf16) = G m c := by
  refine funext fun (i : S1x3072.Idx) => ?_
  unfold iblk
  rw [View.read_apply, ← V_v1 m c]
  show V m c main_v1 _ = V m c main_v1 _
  refine congrArg _ (funext fun a => Fin.ext ?_)
  match a with
  | ⟨0, _⟩ => show win0_1.index t 0 * 1 + 1 * (i 0).val = (i 0).val; rw [(idx1 t).1]; omega
  | ⟨1, _⟩ => show win0_1.index t 1 * 3072 + 1 * (i 1).val = (i 1).val; rw [(idx1 t).2]; omega

theorem blk2 (c : Dev nD) (t : Fin cfg0.N) : (iblk m c 2 t : Vec Ideal S3x16 .f32) = H m c := by
  refine funext fun (i : S3x16.Idx) => ?_
  unfold iblk
  rw [View.read_apply, ← V_h m c]
  show V m c main_arg2 _ = V m c main_arg2 _
  refine congrArg _ (funext fun a => Fin.ext ?_)
  match a with
  | ⟨0, _⟩ => show win0_2.index t 0 * 3 + 1 * (i 0).val = (i 0).val; rw [(idx2 t).1]; omega
  | ⟨1, _⟩ => show win0_2.index t 1 * 16 + 1 * (i 1).val = (i 1).val; rw [(idx2 t).2]; omega

/-- A block's activations are the whole array's, row by row. -/
theorem h_block (c : Dev nD) (t : Fin cfg0.N) (r : Fin 256) (q : Fin 3072) :
    h (iblk m c 0 t : Vec Ideal S256x3072 .bf16) (iblk m c 1 t : Vec Ideal S1x3072 .bf16) r q = h (X m c) (G m c) (row t r) q := by
  unfold h
  simp only [blk0, blk1]

/-- The inverse scale that the codes take, and the six words. -/
abbrev inv (c : Dev nD) : EReal := Scale.dn (x4 (H m c) 0)
abbrev six (c : Dev nD) : Fin 6 → EReal :=
  ![Scale.up (x4 (H m c) 0), Scale.up (x4 (H m c) 1), Scale.up (x5 (H m c) 2), Scale.dn (x4 (H m c) 0), Scale.dn (x4 (H m c) 1), Scale.dn (x5 (H m c) 2)]

abbrev result3 (c : Dev nD) : Buf (Elt Ideal) ((c : Thread nD τ).loc main_v2_0) := codes (X m c) (G m c) (inv m c)
abbrev result4 (c : Dev nD) : Buf (Elt Ideal) ((c : Thread nD τ).loc main_v2_1) := codesT (X m c) (G m c) (inv m c)
abbrev result5 (c : Dev nD) : Buf (Elt Ideal) ((c : Thread nD τ).loc main_v2_2) := maxima (X m c) (G m c)

/-- A bound on a column's largest magnitude. -/
theorem hmax_le {R : ℕ} (x : (⟨2, ![R, 3072]⟩ : Shape).Idx → EReal) (g : (⟨2, ![1, 3072]⟩ : Shape).Idx → EReal) (q : Fin 3072) (z : EReal) :
    hmax x g q ≤ z ↔ ∀ r : Fin R, max (h x g r q) (-(h x g r q)) ≤ z := by
  unfold hmax
  rw [Finset.fold_max_le]
  refine ⟨fun hz r => hz.2 r (Finset.mem_univ _), fun hz => ⟨?_, fun r _ => hz r⟩⟩
  rw [show Ideal.ofBits .f32 0xFF800000#32 = (⊥ : EReal) from by simp [Ideal.ofBits, Ideal.ieee]]
  exact bot_le

theorem pay18_apply (i : S1x3072.Idx) : (k0_pay18 (F := Ideal) i : EReal) = 0 := by
  unfold k0_pay18
  show Ideal.ofBits .f32 0x00000000#32 = 0
  simp

/-- The running maximum after point `n`: bounded by what bounds zero and every block so far. -/
theorem hmAt_le (c : Dev nD) (u : Fin 1) (q : Fin 3072) (z : EReal) : ∀ (n : ℕ) (hn : n < cfg0.N),
    (hmAt m c n hn (ix2 u q) : EReal) ≤ z ↔ 0 ≤ z ∧ ∀ t : Fin cfg0.N, t.val ≤ n → ∀ r : Fin 256,
      max (h (X m c) (G m c) (row t r) q) (-(h (X m c) (G m c) (row t r) q)) ≤ z := by
  have hb : ∀ t : Fin cfg0.N, hmax (iblk m c 0 t : Vec Ideal S256x3072 .bf16) (iblk m c 1 t : Vec Ideal S1x3072 .bf16) q ≤ z ↔ ∀ r : Fin 256,
      max (h (X m c) (G m c) (row t r) q) (-(h (X m c) (G m c) (row t r) q)) ≤ z := fun t => by
    rw [hmax_le]
    simp only [h_block]
  intro n
  induction n with
  | zero =>
    intro hn
    unfold hmAt
    rw [hmaxOf_apply, pay18_apply, max_le_iff, hb]
    refine and_congr_right fun _ => ⟨fun hz t ht r => ?_, fun hz r => hz ⟨0, hn⟩ (Nat.le_refl _) r⟩
    obtain rfl : t = ⟨0, hn⟩ := Fin.ext (Nat.le_zero.mp ht)
    exact hz r
  | succ n ih =>
    intro hn
    unfold hmAt
    rw [hmaxOf_apply, max_le_iff, hb]
    refine Iff.trans (and_congr_left' (ih (Nat.lt_of_succ_lt hn))) ?_
    rw [and_assoc]
    refine and_congr_right fun _ => ⟨fun hz t ht r => ?_, fun hz => ⟨fun t ht r => hz t (Nat.le_succ_of_le ht) r, fun r => hz ⟨n + 1, hn⟩ (Nat.le_refl _) r⟩⟩
    rcases Nat.lt_or_ge t.val (n + 1) with h' | h'
    · exact hz.1 t (Nat.lt_succ_iff.mp h') r
    · obtain rfl : t = ⟨n + 1, hn⟩ := Fin.ext (Nat.le_antisymm ht h')
      exact hz.2 r

/-- After the last point it is the maximum over all the rows: zero is below every magnitude. -/
theorem hm_last (c : Dev nD) (hl : 11 < cfg0.N) : (hmAt m c 11 hl : S1x3072.Idx → EReal) = result5 m c := by
  refine funext fun (i : S1x3072.Idx) => eq_of_forall_ge_iff fun z => ?_
  obtain ⟨u, q, rfl⟩ : ∃ u q, i = ix2 u q := ⟨_, _, ValueIdx.eq_ix2 i⟩
  refine (hmAt_le m c u q z 11 hl).trans (Iff.trans ?_ (hmax_le (X m c) (G m c) q z).symm)
  have hN : cfg0.N = 12 := N_0
  constructor
  · intro hz r
    have hr := r.isLt
    have e : row ⟨r.val / 256, by omega⟩ ⟨r.val % 256, Nat.mod_lt _ (by decide)⟩ = r := Fin.ext (by
      show r.val / 256 * 256 + r.val % 256 = r.val
      omega)
    have := hz.2 ⟨r.val / 256, by omega⟩ (by show r.val / 256 ≤ 11; omega) ⟨r.val % 256, Nat.mod_lt _ (by decide)⟩
    rwa [e] at this
  · intro hz
    exact ⟨(Common.abs_nonneg _).trans (hz 0), fun t _ r => hz (row t r)⟩

/-! The arrays, from what each write-back holds. -/

section
variable (c : Dev nD) (after : (w : Fin cfg0.W) → Fin cfg0.N → (cfg0.win w).block.Idx → Elt Ideal (cfg0.win w).elt)

theorem final3 (ha : ∀ t, (after 3 t : S256x3072.Idx → EReal) = codesOf (iblk m c 0 t) (iblk m c 1 t) (iblk m c 2 t)) :
    ((rdat m c).withAfter after).arrAt 3 cfg0.N = result3 m c :=
  ((rdat m c).withAfter after).arrAt_eq_of_cover 3 (result3 m c) (fun t _ => by
    show (cfg0.win 3).cut (grid0.coords t) (after 3 t) = _
    rw [ha t]
    refine funext fun (y : S256x3072.Idx) => ?_
    obtain ⟨r, q, rfl⟩ : ∃ r q, y = ix2 r q := ⟨_, _, ValueIdx.eq_ix2 y⟩
    rw [View.read_apply]
    have he : ((cfg0.win 3).blk t).view.emb (ix2 r q) = (ix2 (row t r) q : S3072x3072.Idx) := by
      refine funext fun a => Fin.ext ?_
      match a with
      | ⟨0, _⟩ => show win0_3.index t 0 * 256 + 1 * r.val = t.val * 256 + r.val; rw [(idx3 t).1]; omega
      | ⟨1, _⟩ => show win0_3.index t 1 * 3072 + 1 * q.val = q.val; rw [(idx3 t).2]; omega
    show codesOf (iblk m c 0 t) (iblk m c 1 t) (iblk m c 2 t) (ix2 r q) = result3 m c _
    rw [he, codesOf_apply, h_block, blk2]
    rfl) fun (i : S3072x3072.Idx) => by
    have hN : cfg0.N = 12 := N_0
    have h0 : (i 0).val < 3072 := (i 0).isLt
    have h1 : (i 1).val < 3072 := (i 1).isLt
    obtain ⟨t, ht⟩ : ∃ t : Fin cfg0.N, t.val = (i 0).val / 256 := ⟨⟨(i 0).val / 256, by omega⟩, rfl⟩
    refine ⟨t, flush0_3 t, ?_⟩
    show i ∈ ((View.whole main_v2_0).slice (win0_3.rect t)).set
    rw [View.set_slice_whole, Rect.mem_set_unit]
    intro a
    match a with
    | ⟨0, _⟩ => show win0_3.index t 0 * 256 ≤ (i 0 : Nat) ∧ (i 0 : Nat) < win0_3.index t 0 * 256 + 256
                rw [(idx3 t).1]; omega
    | ⟨1, _⟩ => show win0_3.index t 1 * 3072 ≤ (i 1 : Nat) ∧ (i 1 : Nat) < win0_3.index t 1 * 3072 + 3072
                rw [(idx3 t).2]; omega

theorem final4 (ha : ∀ t, (after 4 t : S3072x256.Idx → EReal) = codesTOf (iblk m c 0 t) (iblk m c 1 t) (iblk m c 2 t)) :
    ((rdat m c).withAfter after).arrAt 4 cfg0.N = result4 m c :=
  ((rdat m c).withAfter after).arrAt_eq_of_cover 4 (result4 m c) (fun t _ => by
    show (cfg0.win 4).cut (grid0.coords t) (after 4 t) = _
    rw [ha t]
    refine funext fun (y : S3072x256.Idx) => ?_
    obtain ⟨q, r, rfl⟩ : ∃ q r, y = ix2 q r := ⟨_, _, ValueIdx.eq_ix2 y⟩
    rw [View.read_apply]
    have he : ((cfg0.win 4).blk t).view.emb (ix2 q r) = (ix2 q (row t r) : S3072x3072.Idx) := by
      refine funext fun a => Fin.ext ?_
      match a with
      | ⟨0, _⟩ => show win0_4.index t 0 * 3072 + 1 * q.val = q.val; rw [(idx4 t).1]; omega
      | ⟨1, _⟩ => show win0_4.index t 1 * 256 + 1 * r.val = t.val * 256 + r.val; rw [(idx4 t).2]; omega
    show codesTOf (iblk m c 0 t) (iblk m c 1 t) (iblk m c 2 t) (ix2 q r) = result4 m c _
    rw [he, codesTOf_apply, codesOf_apply, h_block, blk2]
    rfl) fun (i : S3072x3072.Idx) => by
    have hN : cfg0.N = 12 := N_0
    have h0 : (i 0).val < 3072 := (i 0).isLt
    have h1 : (i 1).val < 3072 := (i 1).isLt
    obtain ⟨t, ht⟩ : ∃ t : Fin cfg0.N, t.val = (i 1).val / 256 := ⟨⟨(i 1).val / 256, by omega⟩, rfl⟩
    refine ⟨t, flush0_4 t, ?_⟩
    show i ∈ ((View.whole main_v2_1).slice (win0_4.rect t)).set
    rw [View.set_slice_whole, Rect.mem_set_unit]
    intro a
    match a with
    | ⟨0, _⟩ => show win0_4.index t 0 * 3072 ≤ (i 0 : Nat) ∧ (i 0 : Nat) < win0_4.index t 0 * 3072 + 3072
                rw [(idx4 t).1]; omega
    | ⟨1, _⟩ => show win0_4.index t 1 * 256 ≤ (i 1 : Nat) ∧ (i 1 : Nat) < win0_4.index t 1 * 256 + 256
                rw [(idx4 t).2]; omega

theorem last (t : Fin cfg0.N) (hl : 11 < cfg0.N) (hf : t.val % 12 = 11) : t = ⟨11, hl⟩ := Fin.ext (by have := lt12 t; dsimp only; omega)

theorem hl : 11 < cfg0.N := Nat.lt_of_lt_of_eq (by decide : 11 < 12) N_0.symm

theorem final5 (ha : (after 5 ⟨11, hl⟩ : S1x3072.Idx → EReal) = hmAt m c 11 hl) :
    ((rdat m c).withAfter after).arrAt 5 cfg0.N = result5 m c := by
  have hz : (fun a => win0_5.index (⟨11, hl⟩ : Fin cfg0.N) a * main_v2_2.ty.shape.size a) = fun _ => 0 := funext fun a => by
    match a with
    | ⟨0, _⟩ => exact (congrArg (· * _) (idx5 ⟨11, hl⟩).1).trans (Nat.zero_mul _)
    | ⟨1, _⟩ => exact (congrArg (· * _) (idx5 ⟨11, hl⟩).2).trans (Nat.zero_mul _)
  refine ((rdat m c).withAfter after).arrAt_eq_of_cover 5 (result5 m c) (fun t hf => ?_) fun (i : S1x3072.Idx) => ?_
  · obtain rfl := last t hl ((flush0_5 t).mp hf)
    show (cfg0.win 5).cut (grid0.coords ⟨11, hl⟩) (after 5 ⟨11, hl⟩) = _
    rw [ha, hm_last]
    exact (Memref.read_access_unit_zero (Elt Ideal) main_v2_2 hz (fun a => by rw [congrFun hz a]; simp) (result5 m c)).symm
  · refine ⟨⟨11, hl⟩, (flush0_5 _).mpr rfl, ?_⟩
    show i ∈ ((View.whole main_v2_2).slice (win0_5.rect ⟨11, hl⟩)).set
    rw [View.set_slice_whole]
    exact View.mem_set_unit_zero hz (fun a => by rw [congrFun hz a]; simp) i

theorem final6 : ((rdat m c).withAfter after).arrAt 6 cfg0.N = (after 6 ⟨11, hl⟩ : S8.Idx → EReal) := by
  have hz : (fun a => win0_6.index (⟨11, hl⟩ : Fin cfg0.N) a * main_v2_3.ty.shape.size a) = fun _ => 0 := funext fun a => by
    match a with
    | ⟨0, _⟩ => exact (congrArg (· * _) (idx6 ⟨11, hl⟩)).trans (Nat.zero_mul _)
  refine ((rdat m c).withAfter after).arrAt_eq_of_cover 6 (after 6 ⟨11, hl⟩ : S8.Idx → EReal) (fun t hf => ?_) fun (i : S8.Idx) => ?_
  · obtain rfl := last t hl ((flush0_6 t).mp hf)
    exact (Memref.read_access_unit_zero (Elt Ideal) main_v2_3 hz (fun a => by rw [congrFun hz a]; simp) (after 6 ⟨11, hl⟩ : S8.Idx → EReal)).symm
  · refine ⟨⟨11, hl⟩, (flush0_6 _).mpr rfl, ?_⟩
    show i ∈ ((View.whole main_v2_3).slice (win0_6.rect ⟨11, hl⟩)).set
    rw [View.set_slice_whole]
    exact View.mem_set_unit_zero hz (fun a => by rw [congrFun hz a]; simp) i
end

/-- The six words, from what the body is known to leave. -/
theorem words_eq (c : Dev nD) (Y : S8.Idx → EReal) (hY : Sc (F := Ideal) (H m c) Y) (i : (⟨1, ![8]⟩ : Shape).Idx) (hi : (i 0).val < 6) : Y i = words (six m c) i := by
  obtain ⟨e0, e1, e2, e3, e4, e5⟩ := hY i
  exact words_of (six m c) Y i hi ⟨fun h => (e0 h).trans (word0 _), fun h => (e1 h).trans (word1 _), fun h => (e2 h).trans (word2 _), fun h => (e3 h).trans (word3 _),
    fun h => (e4 h).trans (word4 _), fun h => (e5 h).trans (word5 _)⟩

theorem leaves5 (c : Dev nD) (n : ℕ) (hn : n < cfg0.N) (Y : S1x3072.Idx → EReal) (h : Rl m c 5 ⟨n, hn⟩ Y) : Y = hmAt m c n hn := (Rl5_iff m c _ _).mp h

/-- The run, its results named: of the eight words, the six that are written. -/
theorem run : θ_run defs (onTc (τ := τ) (main (F := Ideal))) ⟨m, fun _ => 0, ρ⟩ fun r => ∀ c : Dev nD,
      r.2.mem ((c : Thread nD τ).loc main_v2_0) = result3 m c ∧ r.2.mem ((c : Thread nD τ).loc main_v2_1) = result4 m c
      ∧ r.2.mem ((c : Thread nD τ).loc main_v2_2) = result5 m c
      ∧ ∀ i : (⟨1, ![8]⟩ : Shape).Idx, (i 0).val < 6 → r.2.mem ((c : Thread nD τ).loc main_v2_3) i = words (six m c) i :=
  (θ_run defs _ _).mono (fun r h c => by
    obtain ⟨after, hL, hA⟩ := Pipeline.RDat.FramePost.exists_exact h.1 c
    have h3 : ∀ t, (after 3 t : S256x3072.Idx → EReal) = codesOf (iblk m c 0 t) (iblk m c 1 t) (iblk m c 2 t) := fun t =>
      (dats m 0 c).toRRel_leaves (w := 3) rfl (hL 3 t (flush0_3 t))
    have h4 : ∀ t, (after 4 t : S3072x256.Idx → EReal) = codesTOf (iblk m c 0 t) (iblk m c 1 t) (iblk m c 2 t) := fun t =>
      (dats m 0 c).toRRel_leaves (w := 4) rfl (hL 4 t (flush0_4 t))
    have f5 : (cfg0.win 5).flush ⟨11, hl⟩ = true := (flush0_5 _).mpr (Nat.mod_eq_of_lt (by decide))
    have l5 := (dats m 0 c).toRRel_leaves (w := 5) rfl (hL 5 ⟨11, hl⟩ f5)
    have h5 : (after 5 ⟨11, hl⟩ : S1x3072.Idx → EReal) = hmAt m c 11 hl := leaves5 m c 11 hl _ l5
    have h6 : Sc (F := Ideal) (H m c) (after 6 ⟨11, hl⟩ : S8.Idx → EReal) := by
      have := (Rl6_iff m c _ _).mp ((dats m 0 c).toRRel_leaves (w := 6) rfl (hL 6 ⟨11, hl⟩ ((flush0_6 _).mpr rfl)))
      rwa [blk2] at this
    have a3 : r.2.mem ((c : Thread nD τ).loc main_v2_0) = ((rdat m c).withAfter after).arrAt 3 cfg0.N := hA 3
    have a4 : r.2.mem ((c : Thread nD τ).loc main_v2_1) = ((rdat m c).withAfter after).arrAt 4 cfg0.N := hA 4
    have a5 : r.2.mem ((c : Thread nD τ).loc main_v2_2) = ((rdat m c).withAfter after).arrAt 5 cfg0.N := hA 5
    have a6 : r.2.mem ((c : Thread nD τ).loc main_v2_3) = ((rdat m c).withAfter after).arrAt 6 cfg0.N := hA 6
    exact ⟨a3.trans (final3 m c after h3), a4.trans (final4 m c after h4), a5.trans (final5 m c after h5),
      fun i hi => (congrFun (a6.trans (final6 m c after)) i).trans (words_eq m c _ h6 i hi)⟩)
    (run_main_quiescent m ρ)

end Cert.PrepIdeal.Value

end
-- ==== Proof.PrepRefPay.lean ====
module

public import proofs.«01_k».proof.Proof.PrepPay
public import proofs.«01_k».proof.Proof.Gen.PrepRefIdeal.Frame

/-!
The printed operations of the `prep` call's reference, read at an index over the extended reals, and what its one body leaves in
each result.
-/

@[expose] public section

noncomputable section

open Idealize.ShloMosaic Idealize.ShloMosaic.TcCoe
open scoped BigOperators

namespace Cert.PrepRefIdeal.Value

open Cert.PrepRefIdeal Cert.PrepRefIdeal.Gen Cert.Prep Cert.Prep.Spec

theorem pay3_apply (x0 : Vec Ideal S3072x3072 .bf16) (x1 : Vec Ideal S1x3072 .bf16) (r : Fin 3072) (q : Fin 3072) :
    (k0_pay3 x0 x1 (ix2 r q) : EReal) = h x0 x1 r q := by
  unfold k0_pay3 h
  simp only [pointwise, Nat.reduceEqDiff, ↓reduceDIte]

theorem pay4_apply (x0 : Vec Ideal S3072x3072 .bf16) (x1 : Vec Ideal S1x3072 .bf16) (z : Fin 1) (q : Fin 3072) :
    (k0_pay4 x0 x1 (ix2 z q) : EReal) = hmax x0 x1 q := by
  unfold k0_pay4 hmax
  simp only [pointwise, pay3_apply]
  rfl

theorem pay5_apply (x2 : Vec Ideal S3x16 .f32) (r : Fin 3) (z : Fin 1) : (k0_pay5 x2 (ix2 r z) : EReal) = am x2 r := by
  unfold k0_pay5 am
  simp only [pointwise]

theorem pay6_apply (x2 : Vec Ideal S3x16 .f32) (r : Fin 3) (z : Fin 1) : (k0_pay6 x2 (ix2 r z) : EReal) = Scale.er (am x2 r) (x4 x2 r) := by
  unfold k0_pay6 x4 Scale.er
  simp only [pointwise, pay5_apply]

theorem pay7_apply (x2 : Vec Ideal S3x16 .f32) (o : Elt Ideal .f32) (ho : (o : EReal) = 0) (r : Fin 3) (z : Fin 1) :
    (k0_pay7 (k0_pay5 x2) o (ix2 r z) : EReal) = Scale.er (am x2 r) (x5 x2 r) := by
  subst ho
  unfold k0_pay7 x5 Scale.er
  simp only [pointwise, pay5_apply]

theorem pay8_apply (x2 : Vec Ideal S3x16 .f32) (r : Fin 3) (z : Fin 1) : (k0_pay8 (k0_pay6 x2) (ix2 r z) : EReal) = Ideal.exp2 (Scale.er (am x2 r) (x4 x2 r)) := by
  unfold k0_pay8
  simp only [pointwise, pay6_apply]
  rfl

theorem pay9_apply (x2 : Vec Ideal S3x16 .f32) (r : Fin 3) (z : Fin 1) : (k0_pay9 (k0_pay6 x2) (ix2 r z) : EReal) = Ideal.exp2 (0 - Scale.er (am x2 r) (x4 x2 r)) := by
  unfold k0_pay9
  simp only [pointwise, pay6_apply]
  rfl

theorem word0 (x2 : Vec Ideal S3x16 .f32) : (k0_pay10 (k0_pay6 x2) : EReal) = Ideal.exp2 (Scale.er (am x2 0) (x4 x2 0)) := by
  unfold k0_pay10; simp only [pointwise, pay8_apply]
theorem word1 (x2 : Vec Ideal S3x16 .f32) : (k0_pay11 (k0_pay6 x2) : EReal) = Ideal.exp2 (Scale.er (am x2 1) (x4 x2 1)) := by
  unfold k0_pay11; simp only [pointwise, pay8_apply]
theorem word2 (x2 : Vec Ideal S3x16 .f32) : (k0_pay12 (k0_pay5 x2) (Scalar.ofBits .f32 0x00000000#32) : EReal) = Ideal.exp2 (Scale.er (am x2 2) (x5 x2 2)) := by
  unfold k0_pay12
  simp only [pointwise]
  exact congrArg Ideal.exp2 (pay7_apply x2 _ rfl 2 0)
theorem word3 (x2 : Vec Ideal S3x16 .f32) : (k0_pay13 (k0_pay6 x2) : EReal) = Ideal.exp2 (0 - Scale.er (am x2 0) (x4 x2 0)) := by
  unfold k0_pay13; simp only [pointwise, pay9_apply]
theorem word4 (x2 : Vec Ideal S3x16 .f32) : (k0_pay14 (k0_pay6 x2) : EReal) = Ideal.exp2 (0 - Scale.er (am x2 1) (x4 x2 1)) := by
  unfold k0_pay14; simp only [pointwise, pay9_apply]
theorem word5 (x2 : Vec Ideal S3x16 .f32) : (k0_pay15 (k0_pay5 x2) (Scalar.ofBits .f32 0x00000000#32) : EReal) = Ideal.exp2 (0 - Scale.er (am x2 2) (x5 x2 2)) := by
  unfold k0_pay15
  simp only [pointwise]
  exact congrArg (fun e => Ideal.exp2 (0 - e)) (pay7_apply x2 _ rfl 2 0)

theorem pay1_apply (x0 : Vec Ideal S3072x3072 .bf16) (x1 : Vec Ideal S1x3072 .bf16) (x2 : Vec Ideal S3x16 .f32) (r : Fin 3072) (q : Fin 3072) :
    (k0_pay1 (k0_pay3 x0 x1) (k0_pay9 (k0_pay6 x2)) (ix2 r q) : EReal) = code (h x0 x1 r q) (Ideal.exp2 (0 - Scale.er (am x2 0) (x4 x2 0))) := by
  unfold k0_pay1 code
  simp only [pointwise, pay3_apply, pay9_apply]

theorem pay2_apply (x0 : Vec Ideal S3072x3072 .bf16) (x1 : Vec Ideal S1x3072 .bf16) (x2 : Vec Ideal S3x16 .f32) (r : Fin 3072) (q : Fin 3072) :
    (k0_pay2 (k0_pay3 x0 x1) (k0_pay9 (k0_pay6 x2)) (ix2 q r) : EReal) = code (h x0 x1 r q) (Ideal.exp2 (0 - Scale.er (am x2 0) (x4 x2 0))) := by
  unfold k0_pay2
  simp only [pointwise, pay1_apply]

/-! What the body leaves in each result: the store's payload. -/

section
variable (c : Dev nD) (arg0 : Memref sig .tc .vmem S3072x3072 .bf16) (harg0 : arg0.IsWhole) (arg1 : Memref sig .tc .vmem S1x3072 .bf16) (harg1 : arg1.IsWhole) (arg2 : Memref sig .tc .vmem S3x16 .f32) (harg2 : arg2.IsWhole)
  (arg3 : Memref sig .tc .vmem S3072x3072 .fp8e4m3) (harg3 : arg3.IsWhole) (arg4 : Memref sig .tc .vmem S3072x3072 .fp8e4m3) (harg4 : arg4.IsWhole) (arg5 : Memref sig .tc .vmem S1x3072 .f32) (harg5 : arg5.IsWhole) (arg6 : Memref sig .tc .smem S8 .f32) (harg6 : arg6.IsWhole)
  (x0 : Vec Ideal S3072x3072 .bf16) (x1 : Vec Ideal S1x3072 .bf16) (x2 : Vec Ideal S3x16 .f32)

theorem out_A_3 : out0_A_3 c arg0 harg0 arg1 harg1 arg2 harg2 arg3 harg3 arg4 harg4 arg5 harg5 arg6 harg6 x0 x1 x2 = k0_pay1 (k0_pay3 x0 x1) (k0_pay9 (k0_pay6 x2)) := by
  unfold out0_A_3
  rw [View.read_writes_eq_canon _ _ _ (cover0_A_3 c arg0 harg0 arg1 harg1 arg2 harg2 arg3 harg3 arg4 harg4 arg5 harg5 arg6 harg6 x0 x1 x2)]
  unfold kernelRun0_A
  dsimp only
  sl_unfold_words
  rw [View.canon_unit_zero Common.hz]
  simp only [View.readAt_eq_ld, harg0.read_unread, harg1.read_unread, harg2.read_unread, View.ld_unit_zero (S := S3072x3072) Common.hz, View.ld_unit_zero (S := S1x3072) Common.hz, View.ld_unit_zero (S := S3x16) Common.hz]

theorem out_A_4 : out0_A_4 c arg0 harg0 arg1 harg1 arg2 harg2 arg3 harg3 arg4 harg4 arg5 harg5 arg6 harg6 x0 x1 x2 = k0_pay2 (k0_pay3 x0 x1) (k0_pay9 (k0_pay6 x2)) := by
  unfold out0_A_4
  rw [View.read_writes_eq_canon _ _ _ (cover0_A_4 c arg0 harg0 arg1 harg1 arg2 harg2 arg3 harg3 arg4 harg4 arg5 harg5 arg6 harg6 x0 x1 x2)]
  unfold kernelRun0_A
  dsimp only
  sl_unfold_words
  rw [View.canon_unit_zero Common.hz]
  simp only [View.readAt_eq_ld, harg0.read_unread, harg1.read_unread, harg2.read_unread, View.ld_unit_zero (S := S3072x3072) Common.hz, View.ld_unit_zero (S := S1x3072) Common.hz, View.ld_unit_zero (S := S3x16) Common.hz]

theorem out_A_5 : out0_A_5 c arg0 harg0 arg1 harg1 arg2 harg2 arg3 harg3 arg4 harg4 arg5 harg5 arg6 harg6 x0 x1 x2 = k0_pay4 x0 x1 := by
  unfold out0_A_5
  rw [View.read_writes_eq_canon _ _ _ (cover0_A_5 c arg0 harg0 arg1 harg1 arg2 harg2 arg3 harg3 arg4 harg4 arg5 harg5 arg6 harg6 x0 x1 x2)]
  unfold kernelRun0_A
  dsimp only
  sl_unfold_words
  rw [View.canon_unit_zero Common.hz]
  simp only [View.readAt_eq_ld, harg0.read_unread, harg1.read_unread, harg2.read_unread, View.ld_unit_zero (S := S3072x3072) Common.hz, View.ld_unit_zero (S := S1x3072) Common.hz, View.ld_unit_zero (S := S3x16) Common.hz]

theorem out_A_6 (x : S8.Idx) :
    let X := out0_A_6 c arg0 harg0 arg1 harg1 arg2 harg2 arg3 harg3 arg4 harg4 arg5 harg5 arg6 harg6 x0 x1 x2
    ((x 0).val = 0 → X x = k0_pay10 (k0_pay6 x2)) ∧ ((x 0).val = 1 → X x = k0_pay11 (k0_pay6 x2))
      ∧ ((x 0).val = 2 → X x = k0_pay12 (k0_pay5 x2) (Scalar.ofBits .f32 0x00000000#32))
      ∧ ((x 0).val = 3 → X x = k0_pay13 (k0_pay6 x2)) ∧ ((x 0).val = 4 → X x = k0_pay14 (k0_pay6 x2))
      ∧ ((x 0).val = 5 → X x = k0_pay15 (k0_pay5 x2) (Scalar.ofBits .f32 0x00000000#32)) := by
  unfold out0_A_6 kernelRun0_A
  dsimp only
  sl_unfold_words
  simp only [View.readAt_eq_ld, harg2.read_unread, View.ld_unit_zero (S := S3x16) Common.hz]
  by_cases h6 : (x 0).val < 6
  · rw [Common.word_miss (k := 7) _ _ _ _ _ x (by omega), Common.word_miss (k := 6) _ _ _ _ _ x h6]
    exact Common.six_words _ _ _ _ _ _ _ _ x
  · exact ⟨fun h => absurd h (by omega), fun h => absurd h (by omega), fun h => absurd h (by omega), fun h => absurd h (by omega),
      fun h => absurd h (by omega), fun h => absurd h (by omega)⟩
end

end Cert.PrepRefIdeal.Value

end
-- ==== Proof.PrepReference.lean ====
module

public import proofs.«01_k».proof.Proof.PrepRefPay
public import Idealize.ShloMosaic.Lib.Pipeline.Value

/-!
The reference of the `prep` call over the extended reals: what its run leaves in the four results.
-/

@[expose] public section

noncomputable section

open Idealize.ShloMosaic Idealize.ShloMosaic.TcCoe Idealize.SL.Sem
open Idealize.ShloMosaic.Pipeline (Dat)
open scoped BigOperators

namespace Cert.PrepRefIdeal.Value

open Cert.PrepRefIdeal Cert.PrepRefIdeal.Gen Cert.Prep Cert.Prep.Spec

variable (m : (ℓ : Loc nD τ sig) → Buf (Elt Ideal) ℓ) (ρ : Dev nD → PrngReg)

/-- The arguments as the call receives them: the activations with their two leading axes merged, the weights as a row. -/
abbrev X (c : Dev nD) : (⟨2, ![3072, 3072]⟩ : Shape).Idx → EReal := shapeCast S3072x3072 (m ((c : Thread nD τ).loc main_arg0)) shapeCasts_S2x1536x3072_S3072x3072
abbrev G (c : Dev nD) : (⟨2, ![1, 3072]⟩ : Shape).Idx → EReal := shapeCast S1x3072 (m ((c : Thread nD τ).loc main_arg1)) shapeCasts_S3072_S1x3072
abbrev H (c : Dev nD) : (⟨2, ![3, 16]⟩ : Shape).Idx → EReal := m ((c : Thread nD τ).loc main_arg2)

theorem V_v0 (c : Dev nD) : (V m c main_v0 : S3072x3072.Idx → EReal) = X m c := rfl
theorem V_v1 (c : Dev nD) : (V m c main_v1 : S1x3072.Idx → EReal) = G m c := rfl

theorem blk0 (c : Dev nD) (t : Fin cfg0.N) : (iblk m c 0 t : Vec Ideal S3072x3072 .bf16) = X m c := by
  have hz : (fun a => win0_0.index t a * main_v0.ty.shape.size a) = fun _ => 0 :=
    funext fun a => by fin_cases a <;> exact (Nat.mul_eq_zero.mpr (.inl rfl))
  exact Memref.read_access_unit_zero (Elt Ideal) main_v0 hz (fun a => by rw [congrFun hz a]; simp) (X m c)

theorem blk1 (c : Dev nD) (t : Fin cfg0.N) : (iblk m c 1 t : Vec Ideal S1x3072 .bf16) = G m c := by
  have hz : (fun a => win0_1.index t a * main_v1.ty.shape.size a) = fun _ => 0 :=
    funext fun a => by fin_cases a <;> exact (Nat.mul_eq_zero.mpr (.inl rfl))
  exact Memref.read_access_unit_zero (Elt Ideal) main_v1 hz (fun a => by rw [congrFun hz a]; simp) (G m c)

theorem blk2 (c : Dev nD) (t : Fin cfg0.N) : (iblk m c 2 t : Vec Ideal S3x16 .f32) = H m c := by
  have hz : (fun a => win0_2.index t a * main_arg2.ty.shape.size a) = fun _ => 0 :=
    funext fun a => by fin_cases a <;> exact (Nat.mul_eq_zero.mpr (.inl rfl))
  exact Memref.read_access_unit_zero (Elt Ideal) main_arg2 hz (fun a => by rw [congrFun hz a]; simp) (H m c)

/-- The inverse scale that the codes take, and the six words. -/
abbrev inv (c : Dev nD) : EReal := Ideal.exp2 (0 - Scale.er (am (H m c) 0) (x4 (H m c) 0))
abbrev six (c : Dev nD) : Fin 6 → EReal :=
  ![Ideal.exp2 (Scale.er (am (H m c) 0) (x4 (H m c) 0)), Ideal.exp2 (Scale.er (am (H m c) 1) (x4 (H m c) 1)), Ideal.exp2 (Scale.er (am (H m c) 2) (x5 (H m c) 2)),
    Ideal.exp2 (0 - Scale.er (am (H m c) 0) (x4 (H m c) 0)), Ideal.exp2 (0 - Scale.er (am (H m c) 1) (x4 (H m c) 1)), Ideal.exp2 (0 - Scale.er (am (H m c) 2) (x5 (H m c) 2))]

/-! What the one point leaves in each result. -/

abbrev result3 (c : Dev nD) : Buf (Elt Ideal) ((c : Thread nD τ).loc main_v2_0) := codes (X m c) (G m c) (inv m c)

theorem outs3 (c : Dev nD) (t : Fin cfg0.N) : ((outsAt0 m c t).1 : S3072x3072.Idx → EReal) = result3 m c := by
  unfold outsAt0
  dsimp only
  rw [out_A_3, blk0, blk1, blk2]
  refine funext fun y => ?_
  obtain ⟨r, q, rfl⟩ : ∃ r q, y = ix2 r q := ⟨_, _, ValueIdx.eq_ix2 y⟩
  exact pay1_apply (X m c) (G m c) (H m c) r q

abbrev result4 (c : Dev nD) : Buf (Elt Ideal) ((c : Thread nD τ).loc main_v2_1) := codesT (X m c) (G m c) (inv m c)

theorem outs4 (c : Dev nD) (t : Fin cfg0.N) : ((outsAt0 m c t).2.1 : S3072x3072.Idx → EReal) = result4 m c := by
  unfold outsAt0
  dsimp only
  rw [out_A_4, blk0, blk1, blk2]
  refine funext fun y => ?_
  obtain ⟨r, q, rfl⟩ : ∃ r q, y = ix2 r q := ⟨_, _, ValueIdx.eq_ix2 y⟩
  exact pay2_apply (X m c) (G m c) (H m c) q r

abbrev result5 (c : Dev nD) : Buf (Elt Ideal) ((c : Thread nD τ).loc main_v2_2) := maxima (X m c) (G m c)

theorem outs5 (c : Dev nD) (t : Fin cfg0.N) : ((outsAt0 m c t).2.2.1 : S1x3072.Idx → EReal) = result5 m c := by
  unfold outsAt0
  dsimp only
  rw [out_A_5, blk0, blk1]
  refine funext fun y => ?_
  obtain ⟨r, q, rfl⟩ : ∃ r q, y = ix2 r q := ⟨_, _, ValueIdx.eq_ix2 y⟩
  exact pay4_apply (X m c) (G m c) r q

/-- The eight words: the first six are the specification's. -/
abbrev result6 (c : Dev nD) : Buf (Elt Ideal) ((c : Thread nD τ).loc main_v2_3) := (outsAt0 m c t0_0).2.2.2

theorem outs6 (c : Dev nD) (t : Fin cfg0.N) : ((outsAt0 m c t).2.2.2 : S8.Idx → EReal) = result6 m c := by
  rw [show t = t0_0 from Fin.ext ((Nat.lt_one_iff.mp (lt_of_lt_of_eq t.isLt N_0)).trans (Nat.lt_one_iff.mp (lt_of_lt_of_eq t0_0.isLt N_0)).symm)]

theorem result6_apply (c : Dev nD) (i : (⟨1, ![8]⟩ : Shape).Idx) (hi : (i 0).val < 6) : (result6 m c i : EReal) = words (six m c) i := by
  refine words_of (six m c) (result6 m c) i hi ?_
  unfold result6 outsAt0
  dsimp only
  have e := out_A_6 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (iblk m c 0 t0_0) (iblk m c 1 t0_0) (iblk m c 2 t0_0) i
  simp only [blk2] at e
  obtain ⟨e0, e1, e2, e3, e4, e5⟩ := e
  rw [blk2]
  exact ⟨fun h => (e0 h).trans (word0 _), fun h => (e1 h).trans (word1 _), fun h => (e2 h).trans (word2 _), fun h => (e3 h).trans (word3 _),
    fun h => (e4 h).trans (word4 _), fun h => (e5 h).trans (word5 _)⟩

/-! So the arrays hold it. -/

theorem final3 (c : Dev nD) : (dats m 0 c).arrAt 3 cfg0.N = result3 m c :=
  (dats m 0 c).arrAt_eq_of_cover 3 (result3 m c) (fun t _ => by
    have hz : (fun a => win0_3.index t a * main_v2_0.ty.shape.size a) = fun _ => 0 :=
      funext fun a => by fin_cases a <;> exact (Nat.mul_eq_zero.mpr (.inl rfl))
    show (cfg0.win 3).cut (grid0.coords t) ((dats m 0 c).after 3 t) = _
    rw [after0_3, outs3]
    exact (Memref.read_access_unit_zero (Elt Ideal) main_v2_0 hz (fun a => by rw [congrFun hz a]; simp) (result3 m c)).symm) fun (i : S3072x3072.Idx) => by
    have hz : (fun a => win0_3.index t0_0 a * main_v2_0.ty.shape.size a) = fun _ => 0 :=
      funext fun a => by fin_cases a <;> exact (Nat.mul_eq_zero.mpr (.inl rfl))
    refine ⟨t0_0, flush0_3 t0_0, ?_⟩
    show i ∈ ((View.whole main_v2_0).slice (win0_3.rect t0_0)).set
    rw [View.set_slice_whole]
    exact View.mem_set_unit_zero hz (fun a => by rw [congrFun hz a]; simp) i

theorem final4 (c : Dev nD) : (dats m 0 c).arrAt 4 cfg0.N = result4 m c :=
  (dats m 0 c).arrAt_eq_of_cover 4 (result4 m c) (fun t _ => by
    have hz : (fun a => win0_4.index t a * main_v2_1.ty.shape.size a) = fun _ => 0 :=
      funext fun a => by fin_cases a <;> exact (Nat.mul_eq_zero.mpr (.inl rfl))
    show (cfg0.win 4).cut (grid0.coords t) ((dats m 0 c).after 4 t) = _
    rw [after0_4, outs4]
    exact (Memref.read_access_unit_zero (Elt Ideal) main_v2_1 hz (fun a => by rw [congrFun hz a]; simp) (result4 m c)).symm) fun (i : S3072x3072.Idx) => by
    have hz : (fun a => win0_4.index t0_0 a * main_v2_1.ty.shape.size a) = fun _ => 0 :=
      funext fun a => by fin_cases a <;> exact (Nat.mul_eq_zero.mpr (.inl rfl))
    refine ⟨t0_0, flush0_4 t0_0, ?_⟩
    show i ∈ ((View.whole main_v2_1).slice (win0_4.rect t0_0)).set
    rw [View.set_slice_whole]
    exact View.mem_set_unit_zero hz (fun a => by rw [congrFun hz a]; simp) i

theorem final5 (c : Dev nD) : (dats m 0 c).arrAt 5 cfg0.N = result5 m c :=
  (dats m 0 c).arrAt_eq_of_cover 5 (result5 m c) (fun t _ => by
    have hz : (fun a => win0_5.index t a * main_v2_2.ty.shape.size a) = fun _ => 0 :=
      funext fun a => by fin_cases a <;> exact (Nat.mul_eq_zero.mpr (.inl rfl))
    show (cfg0.win 5).cut (grid0.coords t) ((dats m 0 c).after 5 t) = _
    rw [after0_5, outs5]
    exact (Memref.read_access_unit_zero (Elt Ideal) main_v2_2 hz (fun a => by rw [congrFun hz a]; simp) (result5 m c)).symm) fun (i : S1x3072.Idx) => by
    have hz : (fun a => win0_5.index t0_0 a * main_v2_2.ty.shape.size a) = fun _ => 0 :=
      funext fun a => by fin_cases a <;> exact (Nat.mul_eq_zero.mpr (.inl rfl))
    refine ⟨t0_0, flush0_5 t0_0, ?_⟩
    show i ∈ ((View.whole main_v2_2).slice (win0_5.rect t0_0)).set
    rw [View.set_slice_whole]
    exact View.mem_set_unit_zero hz (fun a => by rw [congrFun hz a]; simp) i

theorem final6 (c : Dev nD) : (dats m 0 c).arrAt 6 cfg0.N = result6 m c :=
  (dats m 0 c).arrAt_eq_of_cover 6 (result6 m c) (fun t _ => by
    have hz : (fun a => win0_6.index t a * main_v2_3.ty.shape.size a) = fun _ => 0 :=
      funext fun a => by fin_cases a <;> exact (Nat.mul_eq_zero.mpr (.inl rfl))
    show (cfg0.win 6).cut (grid0.coords t) ((dats m 0 c).after 6 t) = _
    rw [after0_6, outs6]
    exact (Memref.read_access_unit_zero (Elt Ideal) main_v2_3 hz (fun a => by rw [congrFun hz a]; simp) (result6 m c)).symm) fun (i : S8.Idx) => by
    have hz : (fun a => win0_6.index t0_0 a * main_v2_3.ty.shape.size a) = fun _ => 0 :=
      funext fun a => by fin_cases a <;> exact (Nat.mul_eq_zero.mpr (.inl rfl))
    refine ⟨t0_0, flush0_6 t0_0, ?_⟩
    show i ∈ ((View.whole main_v2_3).slice (win0_6.rect t0_0)).set
    rw [View.set_slice_whole]
    exact View.mem_set_unit_zero hz (fun a => by rw [congrFun hz a]; simp) i

/-- The run, its results named. -/
theorem run : θ_run defs (onTc (τ := τ) (main (F := Ideal))) ⟨m, fun _ => 0, ρ⟩ fun r => ∀ c : Dev nD,
      r.2.mem ((c : Thread nD τ).loc main_v2_0) = result3 m c ∧ r.2.mem ((c : Thread nD τ).loc main_v2_1) = result4 m c
      ∧ r.2.mem ((c : Thread nD τ).loc main_v2_2) = result5 m c ∧ r.2.mem ((c : Thread nD τ).loc main_v2_3) = result6 m c :=
  (θ_run defs _ _).mono (fun r h c => ⟨((h c).1 3).trans (final3 m c), ((h c).1 4).trans (final4 m c), ((h c).1 5).trans (final5 m c), ((h c).1 6).trans (final6 m c)⟩)
    (run_main m ρ)

end Cert.PrepRefIdeal.Value

end
-- ==== Proof.PrepNormal.lean ====
module

public import proofs.«01_k».proof.Proof.PrepPay
public import proofs.«01_k».proof.Proof.Gen.Pre_normal
public import proofs.«01_k».proof.Proof.Gen.On_written

/-!
What the precondition of the `prep` claim says of the history's maxima, and which words its mask leaves.
-/

@[expose] public section

noncomputable section

open Idealize.ShloMosaic Idealize.ShloMosaic.TcCoe
open scoped BigOperators

namespace Cert.Prep.Spec

theorem both : ∀ a b : BitVec 1, IntOp.andi a b = 1#1 → a = 1#1 ∧ b = 1#1 := by decide
theorem either : ∀ a b c : Bool, IntOp.ori (BitVec.ofBool a) (IntOp.andi (BitVec.ofBool b) (BitVec.ofBool c)) = 1#1 → a = true ∨ b = true ∧ c = true := by decide

/-- The bounds of the precondition are two powers of two. -/
theorem low : Ideal.ofBits .f32 0x00800000#32 = (((2 : ℝ) ^ (-126 : ℤ) : ℝ) : EReal) := Scale.pw_coe (k := 1) (by decide) (by decide)
theorem high : Ideal.ofBits .f32 0x7E800000#32 = (((2 : ℝ) ^ (126 : ℤ) : ℝ) : EReal) := Scale.pw_coe (k := 253) (by decide) (by decide)

theorem normal_of (a x : EReal) (e : IntOp.ori (BitVec.ofBool (decide (a = 0)))
    (IntOp.andi (BitVec.ofBool (decide (Ideal.ofBits .f32 0x00800000#32 ≤ x))) (BitVec.ofBool (decide (x < Ideal.ofBits .f32 0x7E800000#32)))) = 1#1) : Scale.Normal a x := by
  rw [low, high] at e
  rcases either _ _ _ e with h | ⟨h, h'⟩
  · exact Or.inl (of_decide_eq_true h)
  · exact Or.inr ⟨of_decide_eq_true h, of_decide_eq_true h'⟩

/-- The precondition: each maximum that is used is zero, or its scale's argument is within the bounds. -/
theorem normal [hN : Cert.Pre_normal.Facts] (x : FVec Ideal Cert.Pre_normal.S2x1536x3072 .bf16) (g : FVec Ideal Cert.Pre_normal.S3072 .bf16) (H : FVec Ideal Cert.Pre_normal.S3x16 .f32)
    (e : Cert.Pre_normal.fn (F := Ideal) x g H = fun _ => 1#1) :
    Scale.Normal (am H 0) (x4 H 0) ∧ Scale.Normal (am H 1) (x4 H 1) ∧ Scale.Normal (am H 2) (x5 H 2) := by
  have e' := congrFun e (fun a => a.elim0)
  unfold Cert.Pre_normal.fn Cert.Pre_normal.fn_part1 at e'
  simp only [pointwise] at e'
  obtain ⟨e01, e2⟩ := both _ _ e'
  obtain ⟨e0, e1⟩ := both _ _ e01
  exact ⟨normal_of _ _ e0, normal_of _ _ e1, normal_of _ _ e2⟩

/-- So the counted scales are the powers of two of the exponents. -/
theorem scales4 (H : (⟨2, ![3, 16]⟩ : Shape).Idx → EReal) (r : Fin 3) (h : Scale.Normal (am H r) (x4 H r)) :
    Scale.up (x4 H r) = Ideal.exp2 (Scale.er (am H r) (x4 H r)) ∧ Scale.dn (x4 H r) = Ideal.exp2 (0 - Scale.er (am H r) (x4 H r)) :=
  Scale.scales (fun h0 => by unfold x4; rw [h0, zero_mul]) h

theorem scales5 (H : (⟨2, ![3, 16]⟩ : Shape).Idx → EReal) (r : Fin 3) (h : Scale.Normal (am H r) (x5 H r)) :
    Scale.up (x5 H r) = Ideal.exp2 (Scale.er (am H r) (x5 H r)) ∧ Scale.dn (x5 H r) = Ideal.exp2 (0 - Scale.er (am H r) (x5 H r)) :=
  Scale.scales (fun h0 => by unfold x5; rw [h0, zero_mul]) h

theorem lt_six : ∀ k : Fin 8, IntOp.cmpi CmpIPredicate.slt (BitVec.ofNat 32 k.val) 6#32 = 1#1 → k.val < 6 := by decide

/-- The mask on the eight words leaves the first six. -/
theorem written_lt [hW : Cert.On_written.Facts] (x : FVec Ideal Cert.On_written.S2x1536x3072 .bf16) (g : FVec Ideal Cert.On_written.S3072 .bf16) (H : FVec Ideal Cert.On_written.S3x16 .f32)
    (i : (⟨1, ![8]⟩ : Shape).Idx) (e : (Cert.On_written.fn (F := Ideal) x g H).2.2.2 i = 1#1) : (i 0).val < 6 := lt_six (i 0) e

end Cert.Prep.Spec

end
-- ==== Proof.lean ====
module

public import proofs.«01_k».proof.Proof.History
public import proofs.«01_k».proof.Proof.FwdRun
public import proofs.«01_k».proof.Proof.FwdRefRun
public import proofs.«01_k».proof.Proof.Gen.DxIdeal.Value
public import proofs.«01_k».proof.Proof.Gen.DxRefIdeal.Value
public import proofs.«01_k».proof.Proof.FwdKernelMax
public import proofs.«01_k».proof.Proof.FwdReference
public import proofs.«01_k».proof.Proof.DxKernel
public import proofs.«01_k».proof.Proof.DxReference
public import proofs.«01_k».proof.Defs
public import proofs.«01_k».proof.Proof.Gen.Prep
public import proofs.«01_k».proof.Proof.Gen.Prep.Frame
public import proofs.«01_k».proof.Proof.PrepFrame
public import proofs.«01_k».proof.Proof.PrepIdealFrame
public import proofs.«01_k».proof.Proof.PrepKernel
public import proofs.«01_k».proof.Proof.PrepReference
public import proofs.«01_k».proof.Proof.PrepNormal
public import Idealize.ShloMosaic.Lib.Claim
public import proofs.«01_k».proof.Proof.Gen.PrepIdeal.Skeleton
public import proofs.«01_k».proof.Proof.Gen.PrepIdeal
public import proofs.«01_k».proof.Proof.Gen.PrepIdeal.Frame
public import proofs.«01_k».proof.Proof.Gen.PrepRefIdeal
public import proofs.«01_k».proof.Proof.Gen.PrepRefIdeal.Frame
public import proofs.«01_k».proof.Proof.Gen.Pre_normal
public import proofs.«01_k».proof.Proof.Gen.On_written
public import proofs.«01_k».proof.Proof.Gen.FwdDw
public import proofs.«01_k».proof.Proof.Gen.FwdDw.Skeleton
public import proofs.«01_k».proof.Proof.Gen.FwdDw.Launch
public import proofs.«01_k».proof.Proof.Gen.FwdDw.Points
public import proofs.«01_k».proof.Proof.Gen.FwdDw.Frame
public import proofs.«01_k».proof.Proof.Gen.FwdDwIdeal
public import proofs.«01_k».proof.Proof.Gen.FwdDwIdeal.Skeleton
public import proofs.«01_k».proof.Proof.Gen.FwdDwIdeal.Launch
public import proofs.«01_k».proof.Proof.Gen.FwdDwIdeal.Points
public import proofs.«01_k».proof.Proof.Gen.FwdDwIdeal.Frame
public import proofs.«01_k».proof.Proof.Gen.FwdDwRefIdeal
public import proofs.«01_k».proof.Proof.Gen.FwdDwRefIdeal.Skeleton
public import proofs.«01_k».proof.Proof.Gen.FwdDwRefIdeal.Launch
public import proofs.«01_k».proof.Proof.Gen.FwdDwRefIdeal.Points
public import proofs.«01_k».proof.Proof.Gen.FwdDwRefIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import Idealize.ShloMosaic.Adequacy
public import Idealize.ShloMosaic.Init

@[expose] public section

noncomputable section

namespace Cert.Proof

open Idealize.ShloMosaic Idealize.SL.Sem Cert.FwdDw

/-- The second call: both programs leave the six arrays of the specification. -/
theorem fwdDw : Cert.algebraic_FwdDwIdeal_FwdDwRefIdeal (hFwdDwIdeal := Cert.FwdDwIdeal.Gen.facts) (hFwdDwRefIdeal := Cert.FwdDwRefIdeal.Gen.facts) := by
  intro m g m' g' _ hm
  refine ⟨(fun c => Cert.FwdDwIdeal.Value.result5 m c), (fun c => Cert.FwdDwIdeal.Value.result6 m c), (fun c => Cert.FwdDwIdeal.Value.result7 m c), (fun c => Cert.FwdDwIdeal.Value.result8 m c), (fun c => Cert.FwdDwIdeal.Value.result9 m c), (fun c => Cert.FwdDwIdeal.Value.result10 m c), (fun c => Cert.FwdDwIdeal.Value.tail m c), ?_, ?_⟩
  · exact (θ_run Cert.FwdDwIdeal.defs _ _).mono (fun r h c => by
      obtain ⟨h0, h1, h2, h3, h4, h5, h6, hargs⟩ := h c
      exact ⟨h0.trans (Cert.FwdDwIdeal.Value.final5 m c), h1.trans (Cert.FwdDwIdeal.Value.final6 m c), h2.trans (Cert.FwdDwIdeal.Value.final7 m c), h3.trans (Cert.FwdDwIdeal.Value.final8 m c), h4.trans (Cert.FwdDwIdeal.Value.final9 m c), h5.trans (Cert.FwdDwIdeal.Value.final10 m c), h6, hargs⟩) (Cert.FwdDwIdeal.Value.run_blocks m g)
  · exact (θ_run Cert.FwdDwRefIdeal.defs _ _).mono (fun r h c => by
      obtain ⟨h0, h1, h2, h3, h4, h5, h6, hargs⟩ := h c
      obtain ⟨a0, a1, a2, a3, a4, a5, a6⟩ := hm c
      have e0 : Cert.FwdDwRefIdeal.Value.result5 m' c = Cert.FwdDwIdeal.Value.result5 m c := by
        unfold Cert.FwdDwRefIdeal.Value.result5
        simp only [a0, a1, a3]
      have e1 : Cert.FwdDwRefIdeal.Value.result6 m' c = Cert.FwdDwIdeal.Value.result6 m c := by
        unfold Cert.FwdDwRefIdeal.Value.result6
        unfold Cert.FwdDwRefIdeal.Value.grad
        simp only [a0, a2, a4]
      have e2 : Cert.FwdDwRefIdeal.Value.result7 m' c = Cert.FwdDwIdeal.Value.result7 m c := by
        unfold Cert.FwdDwRefIdeal.Value.result7
        simp only [a0, a3]
      have e3 : Cert.FwdDwRefIdeal.Value.result8 m' c = Cert.FwdDwIdeal.Value.result8 m c := by
        unfold Cert.FwdDwRefIdeal.Value.result8
        unfold Cert.FwdDwRefIdeal.Value.grad
        simp only [a0, a4]
      have e4 : Cert.FwdDwRefIdeal.Value.result9 m' c = Cert.FwdDwIdeal.Value.result9 m c := by
        unfold Cert.FwdDwRefIdeal.Value.result9
        simp only [a3]
      have e5 : Cert.FwdDwRefIdeal.Value.result10 m' c = Cert.FwdDwIdeal.Value.result10 m c := by
        unfold Cert.FwdDwRefIdeal.Value.result10
        unfold Cert.FwdDwRefIdeal.Value.grad
        simp only [a4]
      exact ⟨h0.trans ((Cert.FwdDwRefIdeal.Value.final5 m' c).trans e0), h1.trans ((Cert.FwdDwRefIdeal.Value.final6 m' c).trans e1), h2.trans ((Cert.FwdDwRefIdeal.Value.final7 m' c).trans e2), h3.trans ((Cert.FwdDwRefIdeal.Value.final8 m' c).trans e3), h4.trans ((Cert.FwdDwRefIdeal.Value.final9 m' c).trans e4), h5.trans ((Cert.FwdDwRefIdeal.Value.final10 m' c).trans e5), h6.trans (Cert.Fwd.History.tail_eq m c m' a3 a4 a5 a6), hargs⟩) (Cert.FwdDwRefIdeal.Value.run_blocks m' g')

/-- The third call: both programs leave the input gradient of the specification. -/
theorem dx : Cert.algebraic_DxIdeal_DxRefIdeal (hDxIdeal := Cert.DxIdeal.Gen.facts) (hDxRefIdeal := Cert.DxRefIdeal.Gen.facts) := by
  intro m g m' g' _ hm
  refine ⟨(fun c => Cert.DxIdeal.Value.result m c), ?_, ?_⟩
  · exact (θ_run Cert.DxIdeal.defs _ _).mono (fun r h c => by
      obtain ⟨h0, hargs⟩ := h c
      exact ⟨h0.trans (Cert.DxIdeal.Value.final m c), hargs⟩) (Cert.DxIdeal.Value.run_blocks m g)
  · exact (θ_run Cert.DxRefIdeal.defs _ _).mono (fun r h c => by
      obtain ⟨h0, hargs⟩ := h c
      obtain ⟨a0, a1, a2⟩ := hm c
      have e0 : Cert.DxRefIdeal.Value.result m' c = Cert.DxIdeal.Value.result m c := by
        unfold Cert.DxRefIdeal.Value.result
        simp only [a0, a1, a2]
      exact ⟨h0.trans ((Cert.DxRefIdeal.Value.final m' c).trans e0), hargs⟩) (Cert.DxRefIdeal.Value.run_blocks m' g')

/-- Under the precondition the counted scales of the history are the reference's powers of two. -/
theorem six_eq (m : (ℓ : Loc Cert.PrepIdeal.nD Cert.PrepIdeal.τ Cert.PrepIdeal.sig) → Buf (Elt Ideal) ℓ) (c : Dev Cert.PrepIdeal.nD)
    (m' : (ℓ : Loc Cert.PrepRefIdeal.nD Cert.PrepRefIdeal.τ Cert.PrepRefIdeal.sig) → Buf (Elt Ideal) ℓ)
    (hH : Cert.PrepRefIdeal.Value.H m' c = Cert.PrepIdeal.Value.H m c)
    (n : Cert.Prep.Scale.Normal (Cert.Prep.Spec.am (Cert.PrepIdeal.Value.H m c) 0) (Cert.Prep.Spec.x4 (Cert.PrepIdeal.Value.H m c) 0)
      ∧ Cert.Prep.Scale.Normal (Cert.Prep.Spec.am (Cert.PrepIdeal.Value.H m c) 1) (Cert.Prep.Spec.x4 (Cert.PrepIdeal.Value.H m c) 1)
      ∧ Cert.Prep.Scale.Normal (Cert.Prep.Spec.am (Cert.PrepIdeal.Value.H m c) 2) (Cert.Prep.Spec.x5 (Cert.PrepIdeal.Value.H m c) 2)) :
    Cert.PrepRefIdeal.Value.inv m' c = Cert.PrepIdeal.Value.inv m c ∧ Cert.PrepRefIdeal.Value.six m' c = Cert.PrepIdeal.Value.six m c := by
  obtain ⟨n0, n1, n2⟩ := n
  obtain ⟨u0, d0⟩ := Cert.Prep.Spec.scales4 _ _ n0
  obtain ⟨u1, d1⟩ := Cert.Prep.Spec.scales4 _ _ n1
  obtain ⟨u2, d2⟩ := Cert.Prep.Spec.scales5 _ _ n2
  unfold Cert.PrepRefIdeal.Value.inv Cert.PrepRefIdeal.Value.six Cert.PrepIdeal.Value.inv Cert.PrepIdeal.Value.six
  rw [hH, u0, d0, u1, d1, u2, d2]
  exact ⟨rfl, rfl⟩

/-- The first call: both programs leave the codes, their transpose, the column maxima and the six words of the specification. -/
theorem prep : Cert.algebraic_PrepIdeal_PrepRefIdeal_on_written_pre_normal (hPrepIdeal := Cert.PrepIdeal.Gen.facts) (hPrepRefIdeal := Cert.PrepRefIdeal.Gen.facts)
    (hPre_normal := Cert.Pre_normal.Gen.facts) (hOn_written := Cert.On_written.Gen.facts) := by
  intro m g m' g' hpre hm
  have hn := fun c => Cert.Prep.Spec.normal (hN := Cert.Pre_normal.Gen.facts) _ _ _ (hpre c)
  refine ⟨(fun c => Cert.PrepIdeal.Value.result3 m c), (fun c => Cert.PrepIdeal.Value.result4 m c), (fun c => Cert.PrepIdeal.Value.result5 m c),
    (fun c => Cert.Prep.Spec.words (Cert.PrepIdeal.Value.six m c)), ?_, ?_⟩
  · exact (θ_run Cert.PrepIdeal.defs _ _).mono (fun r h c => by
      obtain ⟨h0, h1, h2, h3⟩ := h.1 c
      exact ⟨fun i _ => congrFun h0 i, fun i _ => congrFun h1 i, fun i _ => congrFun h2 i,
        fun i hi => h3 i (Cert.Prep.Spec.written_lt (hW := Cert.On_written.Gen.facts) _ _ _ i hi), h.2 c⟩)
      (θ_run_and (Cert.PrepIdeal.Value.run m g) (Cert.PrepIdeal.Hand.unchanged m g))
  · exact (θ_run Cert.PrepRefIdeal.defs _ _).mono (fun r h c => by
      obtain ⟨h0, h1, h2, h3⟩ := h.1 c
      obtain ⟨a0, a1, a2⟩ := hm c
      have hX : Cert.PrepRefIdeal.Value.X m' c = Cert.PrepIdeal.Value.X m c := by unfold Cert.PrepRefIdeal.Value.X; rw [a0]
      have hG : Cert.PrepRefIdeal.Value.G m' c = Cert.PrepIdeal.Value.G m c := by unfold Cert.PrepRefIdeal.Value.G; rw [a1]
      obtain ⟨ei, es⟩ := six_eq m c m' a2 (hn c)
      have e0 : Cert.PrepRefIdeal.Value.result3 m' c = Cert.PrepIdeal.Value.result3 m c := by unfold Cert.PrepRefIdeal.Value.result3; rw [hX, hG, ei]
      have e1 : Cert.PrepRefIdeal.Value.result4 m' c = Cert.PrepIdeal.Value.result4 m c := by unfold Cert.PrepRefIdeal.Value.result4; rw [hX, hG, ei]
      have e2 : Cert.PrepRefIdeal.Value.result5 m' c = Cert.PrepIdeal.Value.result5 m c := by unfold Cert.PrepRefIdeal.Value.result5; rw [hX, hG]
      exact ⟨fun i _ => congrFun (h0.trans e0) i, fun i _ => congrFun (h1.trans e1) i, fun i _ => congrFun (h2.trans e2) i,
        fun i hi => (congrFun h3 i).trans ((Cert.PrepRefIdeal.Value.result6_apply m' c i (Cert.Prep.Spec.written_lt (hW := Cert.On_written.Gen.facts) _ _ _ i hi)).trans
          (congrArg (fun s => Cert.Prep.Spec.words s i) es)), h.2 c⟩)
      (θ_run_and (Cert.PrepRefIdeal.Value.run m' g') (Cert.PrepRefIdeal.Gen.unchanged m' g'))

theorem claim : Cert.Claim :=
  ⟨Cert.FwdDw.Gen.facts, Cert.FwdDwIdeal.Gen.facts, Cert.FwdDwRefIdeal.Gen.facts, Cert.Dx.Gen.facts, Cert.DxIdeal.Gen.facts, Cert.DxRefIdeal.Gen.facts,
    Cert.Prep.Gen.facts, Cert.PrepIdeal.Gen.facts, Cert.PrepRefIdeal.Gen.facts, Cert.Pre_normal.Gen.facts, Cert.On_written.Gen.facts,
    fun m ρ _ => Cert.FwdDw.Gen.frame m ρ, fun m ρ _ => Cert.FwdDwIdeal.Gen.frame m ρ, fun m ρ _ => Cert.FwdDwRefIdeal.Gen.frame m ρ,
    fun m ρ _ => Cert.Dx.Gen.frame m ρ, fun m ρ _ => Cert.DxIdeal.Gen.frame m ρ, fun m ρ _ => Cert.DxRefIdeal.Gen.frame m ρ,
    fun m ρ _ => Cert.Prep.Hand.frame m ρ, fun m ρ _ => Cert.PrepIdeal.Hand.frame m ρ, fun m ρ _ => Cert.PrepIdeal.Hand.frame m ρ,
    fun m ρ _ => Cert.PrepRefIdeal.Gen.frame m ρ, fun m ρ _ => Cert.PrepRefIdeal.Gen.frame m ρ,
    trivial, fwdDw, trivial, dx, trivial, prep⟩

end Cert.Proof

end
